-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x14336 : Shape := ⟨3, ![8, 2048, 14336]⟩
abbrev S_ : Shape := ⟨0, ![]⟩
abbrev S8x2048x4096 : Shape := ⟨3, ![8, 2048, 4096]⟩
abbrev S14336x4096 : Shape := ⟨2, ![14336, 4096]⟩
abbrev S1 : Shape := ⟨1, ![1]⟩
abbrev S16384x14336 : Shape := ⟨2, ![16384, 14336]⟩
abbrev S16384x4096 : Shape := ⟨2, ![16384, 4096]⟩
abbrev S8x14336 : Shape := ⟨2, ![8, 14336]⟩
abbrev S8x1024 : Shape := ⟨2, ![8, 1024]⟩
abbrev S1024x1024 : Shape := ⟨2, ![1024, 1024]⟩
abbrev S1024x4096 : Shape := ⟨2, ![1024, 4096]⟩
abbrev S128x8x1024 : Shape := ⟨3, ![128, 8, 1024]⟩
abbrev S1024x2048 : Shape := ⟨2, ![1024, 2048]⟩
abbrev S14336 : Shape := ⟨1, ![14336]⟩

abbrev nBuf : Space → Nat
  | .hbm => 27
  | .vmem => 20
  | .smem => 3
  | _ => 0

abbrev bufTy : (tb : Table) → Fin (tcTables nBuf tb) → BufTy
  | .hbm, ⟨0, _⟩ => ⟨S8x2048x14336, .bf16⟩
  | .hbm, ⟨1, _⟩ => ⟨S_, .f32⟩
  | .hbm, ⟨2, _⟩ => ⟨S8x2048x4096, .fp8e4m3⟩
  | .hbm, ⟨3, _⟩ => ⟨S_, .f32⟩
  | .hbm, ⟨4, _⟩ => ⟨S14336x4096, .fp8e4m3⟩
  | .hbm, ⟨5, _⟩ => ⟨S_, .f32⟩
  | .hbm, ⟨6, _⟩ => ⟨S14336x4096, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S16384x14336, .bf16⟩
  | .hbm, ⟨11, _⟩ => ⟨S_, .f32⟩
  | .hbm, ⟨12, _⟩ => ⟨S1, .f32⟩
  | .hbm, ⟨13, _⟩ => ⟨S16384x4096, .bf16⟩
  | .hbm, ⟨14, _⟩ => ⟨S16384x14336, .fp8e5m2⟩
  | .hbm, ⟨15, _⟩ => ⟨S8x14336, .f32⟩
  | .hbm, ⟨16, _⟩ => ⟨S8x1024, .f32⟩
  | .hbm, ⟨17, _⟩ => ⟨S16384x4096, .fp8e4m3⟩
  | .hbm, ⟨18, _⟩ => ⟨S_, .f32⟩
  | .hbm, ⟨19, _⟩ => ⟨S1, .f32⟩
  | .hbm, ⟨20, _⟩ => ⟨S14336x4096, .f32⟩
  | .hbm, ⟨21, _⟩ => ⟨S8x2048x4096, .bf16⟩
  | .hbm, ⟨22, _⟩ => ⟨S_, .f32⟩
  | .hbm, ⟨23, _⟩ => ⟨S14336, .f32⟩
  | .hbm, ⟨24, _⟩ => ⟨S_, .f32⟩
  | .hbm, ⟨25, _⟩ => ⟨S_, .f32⟩
  | .hbm, ⟨26, _⟩ => ⟨S8x2048x14336, .fp8e5m2⟩
  | .local _ .vmem, ⟨0, _⟩ => ⟨S1024x1024, .bf16⟩
  | .local _ .vmem, ⟨1, _⟩ => ⟨S1024x1024, .bf16⟩
  | .local _ .vmem, ⟨2, _⟩ => ⟨S1024x4096, .fp8e4m3⟩
  | .local _ .vmem, ⟨3, _⟩ => ⟨S1024x4096, .fp8e4m3⟩
  | .local _ .vmem, ⟨4, _⟩ => ⟨S1024x4096, .bf16⟩
  | .local _ .vmem, ⟨5, _⟩ => ⟨S1024x4096, .bf16⟩
  | .local _ .vmem, ⟨6, _⟩ => ⟨S1024x1024, .fp8e5m2⟩
  | .local _ .vmem, ⟨7, _⟩ => ⟨S1024x1024, .fp8e5m2⟩
  | .local _ .vmem, ⟨8, _⟩ => ⟨S8x14336, .f32⟩
  | .local _ .vmem, ⟨9, _⟩ => ⟨S8x1024, .f32⟩
  | .local _ .vmem, ⟨10, _⟩ => ⟨S1024x4096, .f32⟩
  | .local _ .vmem, ⟨11, _⟩ => ⟨S1024x1024, .fp8e5m2⟩
  | .local _ .vmem, ⟨12, _⟩ => ⟨S1024x1024, .fp8e5m2⟩
  | .local _ .vmem, ⟨13, _⟩ => ⟨S1024x2048, .fp8e4m3⟩
  | .local _ .vmem, ⟨14, _⟩ => ⟨S1024x2048, .fp8e4m3⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .f32⟩
  | .local _ .vmem, ⟨19, _⟩ => ⟨S1024x2048, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S8x2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨2, ![16, 14], ![false, false]⟩

def k0_mult1 (i : grid0.Coords) : BitVec 32 :=
  let arg1 : BitVec 32 := BitVec.ofNat 32 (i 1).val
  let c1024_i32 : BitVec 32 := 1024#32
  let v20 : BitVec 32 := Scalar.muli arg1 c1024_i32
  v20
def k0_off1 (i : grid0.Coords) : Fin 2 → Nat :=
  let c0_9 : Index := 0#32
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  ![0, v22.toNat]
def k0_cond3 (i : grid0.Coords) : BitVec 1 :=
  let arg1 : BitVec 32 := BitVec.ofNat 32 (i 1).val
  let c13_i32 : BitVec 32 := 13#32
  let v44 : BitVec 1 := Scalar.cmpi .eq arg1 c13_i32
  let v45 : BitVec 32 := Scalar.extui v44
  let c0_i32_24 : BitVec 32 := 0#32
  let v46 : BitVec 1 := Scalar.cmpi .ne v45 c0_i32_24
  v46

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨3, ![14, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1024x1024 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x2048 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]
-- ==== ReferenceIdeal.lean ====
abbrev S8x2048x14336 : Shape := ⟨3, ![8, 2048, 14336]⟩
abbrev S_ : Shape := ⟨0, ![]⟩
abbrev S8x2048x4096 : Shape := ⟨3, ![8, 2048, 4096]⟩
abbrev S14336x4096 : Shape := ⟨2, ![14336, 4096]⟩
abbrev S16384x14336 : Shape := ⟨2, ![16384, 14336]⟩
abbrev S1x1 : Shape := ⟨2, ![1, 1]⟩
abbrev S16384x4096 : Shape := ⟨2, ![16384, 4096]⟩
abbrev S1x14336 : Shape := ⟨2, ![1, 14336]⟩
abbrev S1x16384x14336 : Shape := ⟨3, ![1, 16384, 14336]⟩
abbrev S1 : Shape := ⟨1, ![1]⟩
abbrev S1x1x1 : Shape := ⟨3, ![1, 1, 1]⟩
abbrev S14336 : Shape := ⟨1, ![14336]⟩

abbrev nBuf : Space → Nat
  | .hbm => 21
  | .vmem => 12
  | .smem => 0
  | _ => 0

abbrev bufTy : (tb : Table) → Fin (tcTables nBuf tb) → BufTy
  | .hbm, ⟨0, _⟩ => ⟨S8x2048x14336, .bf16⟩
  | .hbm, ⟨1, _⟩ => ⟨S_, .f32⟩
  | .hbm, ⟨2, _⟩ => ⟨S8x2048x4096, .fp8e4m3⟩
  | .hbm, ⟨3, _⟩ => ⟨S_, .f32⟩
  | .hbm, ⟨4, _⟩ => ⟨S14336x4096, .fp8e4m3⟩
  | .hbm, ⟨5, _⟩ => ⟨S_, .f32⟩
  | .hbm, ⟨6, _⟩ => ⟨S14336x4096, .f32⟩
  | .hbm, ⟨7, _⟩ => ⟨S16384x14336, .bf16⟩
  | .hbm, ⟨8, _⟩ => ⟨S1x1, .f32⟩
  | .hbm, ⟨9, _⟩ => ⟨S16384x4096, .fp8e4m3⟩
  | .hbm, ⟨10, _⟩ => ⟨S1x1, .f32⟩
  | .hbm, ⟨11, _⟩ => ⟨S1x1, .f32⟩
  | .hbm, ⟨12, _⟩ => ⟨S16384x4096, .bf16⟩
  | .hbm, ⟨13, _⟩ => ⟨S14336x4096, .f32⟩
  | .hbm, ⟨14, _⟩ => ⟨S1x14336, .f32⟩
  | .hbm, ⟨15, _⟩ => ⟨S1x1, .f32⟩
  | .hbm, ⟨16, _⟩ => ⟨S16384x14336, .fp8e5m2⟩
  | .hbm, ⟨17, _⟩ => ⟨S8x2048x4096, .bf16⟩
  | .hbm, ⟨18, _⟩ => ⟨S14336, .f32⟩
  | .hbm, ⟨19, _⟩ => ⟨S_, .f32⟩
  | .hbm, ⟨20, _⟩ => ⟨S8x2048x14336, .fp8e5m2⟩
  | .local _ .vmem, ⟨0, _⟩ => ⟨S16384x14336, .bf16⟩
  | .local _ .vmem, ⟨1, _⟩ => ⟨S1x1, .f32⟩
  | .local _ .vmem, ⟨2, _⟩ => ⟨S16384x4096, .fp8e4m3⟩
  | .local _ .vmem, ⟨3, _⟩ => ⟨S1x1, .f32⟩
  | .local _ .vmem, ⟨4, _⟩ => ⟨S14336x4096, .fp8e4m3⟩
  | .local _ .vmem, ⟨5, _⟩ => ⟨S1x1, .f32⟩
  | .local _ .vmem, ⟨6, _⟩ => ⟨S14336x4096, .f32⟩
  | .local _ .vmem, ⟨7, _⟩ => ⟨S16384x4096, .bf16⟩
  | .local _ .vmem, ⟨8, _⟩ => ⟨S14336x4096, .f32⟩
  | .local _ .vmem, ⟨9, _⟩ => ⟨S1x14336, .f32⟩
  | .local _ .vmem, ⟨10, _⟩ => ⟨S1x1, .f32⟩
  | .local _ .vmem, ⟨11, _⟩ => ⟨S16384x14336, .fp8e5m2⟩
  | _, _ => ⟨S8x2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14336x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14336x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x14336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x14336 .fp8e5m2 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Dgrad.Runs.lean ====
/- The region of the `cc0_dgrad` call: what its body's runs share. The blocks the body is handed, the branch conditions in
   closed form over the grid points, where a window is idle, the staging and scratch buffers by name. Everything is stated
   over the contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 224 = 0 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 224 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_1 : ∀ t : Fin cfg0.N, cond0_1 (grid0.coords t) ↔ t.val % 14 = 0 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_1, e0, e1]
    word_cmp
   : ∀ t : Fin grid0.N, cond0_1 (grid0.coords t) ↔ t.val % 14 = 0)

/-- The condition of the body's `scf.if` 2 (`k0_h3`), from the grid coordinates (the skeleton's scalar
    chain substituted). -/
abbrev cond0_2 (i : grid0.Coords) : Prop := k0_cond3 i = 1#1
/-- It holds at the points ≡ 13 (mod 14) — by arithmetic of the point. -/
theorem hcond0_2 : ∀ t : Fin cfg0.N, cond0_2 (grid0.coords t) ↔ t.val % 14 = 13 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_2, k0_cond3, e0, e1]
    word_cmp
   : ∀ t : Fin grid0.N, cond0_2 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 4 idle: the case stores nothing into it. -/
theorem idleAt0_4_A : ∀ t : Fin cfg0.N, cond0_0 (grid0.coords t) → cond0_1 (grid0.coords t) → ¬cond0_2 (grid0.coords t) → cfg0.idle 4 (grid0.coords t) = true := by decide +kernel
/-- At the points of case A the pipeline does not write output 4's block back. -/
theorem noFlush0_4_A : ∀ t : Fin cfg0.N, cond0_0 (grid0.coords t) → cond0_1 (grid0.coords t) → ¬cond0_2 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → ¬cond0_2 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → ¬cond0_2 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → cfg0.idle 4 (grid0.coords t) = false := by decide +kernel
/-- At the points of case D the printed configuration (`Cfg.idle`) calls output 4 idle: the case stores nothing into it. -/
theorem idleAt0_4_D : ∀ t : Fin cfg0.N, ¬cond0_0 (grid0.coords t) → cond0_1 (grid0.coords t) → ¬cond0_2 (grid0.coords t) → cfg0.idle 4 (grid0.coords t) = true := by decide +kernel
/-- At the points of case D the pipeline does not write output 4's block back. -/
theorem noFlush0_4_D : ∀ t : Fin cfg0.N, ¬cond0_0 (grid0.coords t) → cond0_1 (grid0.coords t) → ¬cond0_2 (grid0.coords t) → (cfg0.win 4).flush t = false := by decide +kernel

/-! ## The kernel body on any staging memrefs: a subtype the run finds -/

/-- One staging buffer of output window 4, through which its contents are stated (`View.read_writes_of_cover`: the
    choice does not matter). -/
abbrev VO0_4 : View sig .tc .vmem S1024x4096 .bf16 := (Memref.whole cc0_stg4_0 : Memref sig .tc .vmem S1024x4096 .bf16).view
/-- One staging buffer of output window 5, through which its contents are stated (`View.read_writes_of_cover`: the
    choice does not matter). -/
abbrev VO0_5 : View sig .tc .vmem S1024x1024 .fp8e5m2 := (Memref.whole cc0_stg5_0 : Memref sig .tc .vmem S1024x1024 .fp8e5m2).view
/-- One staging buffer of output window 6, through which its contents are stated (`View.read_writes_of_cover`: the
    choice does not matter). -/
abbrev VO0_6 : View sig .tc .vmem S8x14336 .f32 := (Memref.whole cc0_stg6_0 : Memref sig .tc .vmem S8x14336 .f32).view
/-- One staging buffer of output window 7, through which its contents are stated (`View.read_writes_of_cover`: the
    choice does not matter). -/
abbrev VO0_7 : View sig .tc .vmem S8x1024 .f32 := (Memref.whole cc0_stg7_0 : Memref sig .tc .vmem S8x1024 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x14336 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1024 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x4096 .f32 := Memref.whole cc0_scratch0
/-- The scratch `arg10` the kernel carries between points, as a view: what it holds is stated through it. -/
abbrev VS0_0 : View sig .tc .vmem S1024x4096 .f32 := scM0_0.view

/-- What rides beside the carried scratch through the region: the other call's scoped buffers at anything and the
    generator register at some state. -/
def Rest (c : Dev nD) : sProp 𝕄 :=
  iprop((bigSepL [cc1_stg1_0, cc1_stg1_1, cc1_stg2_0, cc1_stg2_1, cc1_stg3_0, cc1_stg3_1, cc1_stg4_0, cc1_stg4_1, cc1_scratch0, cc1_stg0_0] fun b => iprop(∃ f, (c : Thread nD τ).loc b ↦{fullShare} f)) ∗ (∃ r, prngReg c r))

/-- The region's invariant with its scratch operand as a memref owned at some contents. -/
theorem PhiA0_eq (c : Dev nD) :
    (Pipeline.ΦA spec0 c : sProp 𝕄) = iprop(iprop((∃ d, owns (c : Thread nD τ) scM0_0 fullShare d)) ∗ Rest c) := by
  unfold Pipeline.ΦA Rest
  rw [Pipeline.scopedRest_eq_of_list spec0 c [cc0_scratch0, cc1_stg1_0, cc1_stg1_1, cc1_stg2_0, cc1_stg2_1, cc1_stg3_0, cc1_stg3_1, cc1_stg4_0, cc1_stg4_1, cc1_scratch0, cc1_stg0_0] (by decide) (by decide), bigSepL_cons_cons]
  simp only [scM0_0, owns_whole]
  exact BI.equiv_iff.mp ⟨BI.sep_assoc, BI.sep_assoc'⟩

end Cert.KernelIdeal.Dgrad

end
-- ==== Proof.Dgrad.RunA.lean ====
/- The region of the `cc0_dgrad` call: the run of the body in case A of its branch conditions, with the pieces each
   buffer ends with. -/
module

public import proofs.«01_k».proof.Proof.Dgrad.Runs

@[expose] public section

-- membership in a rectangle of production extents (`View.cover_of_tiled`): the elaborator's structural look
-- recurses once per coordinate of the long axes
set_option maxRecDepth 16384

noncomputable section

namespace Cert.KernelIdeal.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) :
    Σ' (L4 : List (View.Piece (Elt F) S1024x4096 .bf16)), Σ' (L5 : List (View.Piece (Elt F) S1024x1024 .fp8e5m2)), Σ' (L6 : List (View.Piece (Elt F) S8x14336 .f32)), Σ' (L7 : List (View.Piece (Elt F) S8x1024 .f32)), { LS0 : List (View.Piece (Elt F) S1024x4096 .f32) //
      ∀ (xi4 : Vec F S1024x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_dgrad_eq_skeleton]; unfold cc0_dgrad_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Dgrad

end
-- ==== Proof.Dgrad.RunB.lean ====
/- The region of the `cc0_dgrad` call: the run of the body in case B of its branch conditions, with the pieces each
   buffer ends with. -/
module

public import proofs.«01_k».proof.Proof.Dgrad.RunA

@[expose] public section

-- membership in a rectangle of production extents (`View.cover_of_tiled`): the elaborator's structural look
-- recurses once per coordinate of the long axes
set_option maxRecDepth 16384

noncomputable section

namespace Cert.KernelIdeal.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken: points 1, 2, … 222: 192 of 224), WITH the
    proof that on whole staging memrefs — the inputs' at their contents, the outputs it reads before covering (6, 7) at their running contents `xo·`, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) :
    Σ' (L4 : List (View.Piece (Elt F) S1024x4096 .bf16)), Σ' (L5 : List (View.Piece (Elt F) S1024x1024 .fp8e5m2)), Σ' (L6 : List (View.Piece (Elt F) S8x14336 .f32)), Σ' (L7 : List (View.Piece (Elt F) S8x1024 .f32)), { LS0 : List (View.Piece (Elt F) S1024x4096 .f32) //
      ∀ (xi4 : Vec F S1024x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xo6 ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xo6) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_dgrad_eq_skeleton]; unfold cc0_dgrad_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [H7]; · iexists _; iexact H7
    iexists _; iexact HS0

end Cert.KernelIdeal.Dgrad

end
-- ==== Proof.Dgrad.RunC.lean ====
/- The region of the `cc0_dgrad` call: the run of the body in case C of its branch conditions, with the pieces each
   buffer ends with. -/
module

public import proofs.«01_k».proof.Proof.Dgrad.RunB

@[expose] public section

-- membership in a rectangle of production extents (`View.cover_of_tiled`): the elaborator's structural look
-- recurses once per coordinate of the long axes
set_option maxRecDepth 16384

noncomputable section

namespace Cert.KernelIdeal.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 13, 27, … 223: 16 of 224), WITH the
    proof that on whole staging memrefs — the inputs' at their contents, the outputs it reads before covering (6, 7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) :
    Σ' (L4 : List (View.Piece (Elt F) S1024x4096 .bf16)), Σ' (L5 : List (View.Piece (Elt F) S1024x1024 .fp8e5m2)), Σ' (L6 : List (View.Piece (Elt F) S8x14336 .f32)), Σ' (L7 : List (View.Piece (Elt F) S8x1024 .f32)), { LS0 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo6 ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xo6) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_dgrad_eq_skeleton]; unfold cc0_dgrad_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexact H6
    isplitl [H7]; · iexists _; iexact H7
    iexists _; iexact HS0

end Cert.KernelIdeal.Dgrad

end
-- ==== Proof.Dgrad.RunD.lean ====
/- The region of the `cc0_dgrad` call: the run of the body in case D of its branch conditions, with the pieces each
   buffer ends with. -/
module

public import proofs.«01_k».proof.Proof.Dgrad.RunC

@[expose] public section

-- membership in a rectangle of production extents (`View.cover_of_tiled`): the elaborator's structural look
-- recurses once per coordinate of the long axes
set_option maxRecDepth 16384

noncomputable section

namespace Cert.KernelIdeal.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken: points 14, 28, … 210: 15 of 224), WITH the
    proof that on whole staging memrefs — the inputs' at their contents, the outputs it reads before covering (6, 7) at their running contents `xo·`, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) :
    Σ' (L4 : List (View.Piece (Elt F) S1024x4096 .bf16)), Σ' (L5 : List (View.Piece (Elt F) S1024x1024 .fp8e5m2)), Σ' (L6 : List (View.Piece (Elt F) S8x14336 .f32)), Σ' (L7 : List (View.Piece (Elt F) S8x1024 .f32)), { LS0 : List (View.Piece (Elt F) S1024x4096 .f32) //
      ∀ (xi4 : Vec F S1024x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ owns (c : Thread nD τ) arg8 fullShare xo6 ∗ owns (c : Thread nD τ) arg9 fullShare xo7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xo6) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_dgrad_eq_skeleton]; unfold cc0_dgrad_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexact H6
    isplitl [H7]; · iexists _; iexact H7
    iexists _; iexact HS0

end Cert.KernelIdeal.Dgrad

end
-- ==== Proof.Dgrad.Frame.lean ====
/- The region of the `cc0_dgrad` call: what each grid point leaves in the outputs and in the scratch carried between points
   (`outsAt0`), the proof data over the entry contents `V`, and the pipeline's obligation for the body. -/
module

public import proofs.«01_k».proof.Proof.Dgrad.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) : Vec F S1024x4096 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 hc2 x0 x1 x2 x3).1)

/-- Case A's pieces for output 5 tile its block (1 store of `S1024x1024`, checked by the kernel's evaluation: Lib/Ring.lean `Piece.tiledL`, linear in the pieces, through a loop's `@[irreducible]` trip theorem too), so they cover it. -/
theorem cover0_A_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) (y : S1024x1024.Idx) :
    ∃ pc ∈ (kernelRun0_A c i arg2 harg2 arg3 harg3 arg4 harg4 arg5 harg5 arg6 harg6 arg7 harg7 arg8 harg8 arg9 harg9 arg10 harg10 hc0 hc1 hc2 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3).2.1 S1024x1024.size (by sl_kernel_rfl) y

/-- What case A leaves in output 5's staging buffer: its pieces read back over junk. -/
def out0_A_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) : Vec F S1024x1024 .fp8e5m2 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 hc2 x0 x1 x2 x3).2.1)

/-- Case A's pieces for output 6 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_6 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) (y : S8x14336.Idx) :
    ∃ pc ∈ (kernelRun0_A c i arg2 harg2 arg3 harg3 arg4 harg4 arg5 harg5 arg6 harg6 arg7 harg7 arg8 harg8 arg9 harg9 arg10 harg10 hc0 hc1 hc2 x0 x1 x2 x3).2.2.1, y ∈ pc.1.set :=
  View.cover_of_wholeMem (kernelRun0_A c i arg2 harg2 arg3 harg3 arg4 harg4 arg5 harg5 arg6 harg6 arg7 harg7 arg8 harg8 arg9 harg9 arg10 harg10 hc0 hc1 hc2 x0 x1 x2 x3).2.2.1 (by sl_whole_mem) y

/-- What case A leaves in output 6's staging buffer: its pieces read back over junk. -/
def out0_A_6 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) : Vec F S8x14336 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 hc2 x0 x1 x2 x3).2.2.1)

/-- Case A's pieces for output 7 tile its block (2 stores of `S8x1024`, checked by the kernel's evaluation: Lib/Ring.lean `Piece.tiledL`, linear in the pieces, through a loop's `@[irreducible]` trip theorem too), so they cover it. -/
theorem cover0_A_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) (y : S8x1024.Idx) :
    ∃ pc ∈ (kernelRun0_A c i arg2 harg2 arg3 harg3 arg4 harg4 arg5 harg5 arg6 harg6 arg7 harg7 arg8 harg8 arg9 harg9 arg10 harg10 hc0 hc1 hc2 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3).2.2.2.1 S8x1024.size (by sl_kernel_rfl) y

/-- What case A leaves in output 7's staging buffer: its pieces read back over junk. -/
def out0_A_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) : Vec F S8x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 hc2 x0 x1 x2 x3).2.2.2.1)

/-- Case A's pieces for scratch `arg10`, which the kernel carries between points, cover it: 2 pieces of `S1024x4096` tiling it (Lib/Ring.lean `Piece.tiledL`). -/
theorem scover0_A_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) (y : S1024x4096.Idx) :
    ∃ pc ∈ (kernelRun0_A c i arg2 harg2 arg3 harg3 arg4 harg4 arg5 harg5 arg6 harg6 arg7 harg7 arg8 harg8 arg9 harg9 arg10 harg10 hc0 hc1 hc2 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2 x3).2.2.2.2.1 S1024x4096.size (by sl_kernel_rfl) y

/-- What case A leaves in scratch `arg10`: its pieces read back over junk. -/
def sout0_A_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : cond0_0 i) (hc1 : cond0_1 i) (hc2 : ¬cond0_2 i)
    (x0 : Vec F S1 .f32) (x1 : Vec F S1 .f32) (x2 : Vec F S1024x1024 .bf16) (x3 : Vec F S1024x4096 .fp8e4m3) : Vec F S1024x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 x0 x1 x2 x3).2.2.2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S1024x4096 .bf16 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 hc2 x0 x1 x2 x3 xo6 xo7 xs0).1)

/-- Case B's pieces for output 5 tile its block (1 store of `S1024x1024`, checked by the kernel's evaluation: Lib/Ring.lean `Piece.tiledL`, linear in the pieces, through a loop's `@[irreducible]` trip theorem too), so they cover it. -/
theorem cover0_B_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) (y : S1024x1024.Idx) :
    ∃ pc ∈ (kernelRun0_B c i arg2 harg2 arg3 harg3 arg4 harg4 arg5 harg5 arg6 harg6 arg7 harg7 arg8 harg8 arg9 harg9 arg10 harg10 hc0 hc1 hc2 x0 x1 x2 x3 xo6 xo7 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 x3 xo6 xo7 xs0).2.1 S1024x1024.size (by sl_kernel_rfl) y

/-- What case B leaves in output 5's staging buffer: its pieces read back over junk. -/
def out0_B_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S1024x1024 .fp8e5m2 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 hc2 x0 x1 x2 x3 xo6 xo7 xs0).2.1)

/-- What case B leaves in output 6's staging buffer: its stores read back over what the point before left there (they do not cover the block). -/
def out0_B_6 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S8x14336 .f32 :=
  arg8.view.read (Elt F) (arg8.view.writes (Elt F) (harg8.unread xo6) (kernelRun0_B c i arg2 harg2 arg3 harg3 arg4 harg4 arg5 harg5 arg6 harg6 arg7 harg7 arg8 harg8 arg9 harg9 arg10 harg10 hc0 hc1 hc2 x0 x1 x2 x3 xo6 xo7 xs0).2.2.1)

/-- Case B's pieces for output 7 tile its block (1 store of `S8x1024`, checked by the kernel's evaluation: Lib/Ring.lean `Piece.tiledL`, linear in the pieces, through a loop's `@[irreducible]` trip theorem too), so they cover it. -/
theorem cover0_B_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) (y : S8x1024.Idx) :
    ∃ pc ∈ (kernelRun0_B c i arg2 harg2 arg3 harg3 arg4 harg4 arg5 harg5 arg6 harg6 arg7 harg7 arg8 harg8 arg9 harg9 arg10 harg10 hc0 hc1 hc2 x0 x1 x2 x3 xo6 xo7 xs0).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 x3 xo6 xo7 xs0).2.2.2.1 S8x1024.size (by sl_kernel_rfl) y

/-- What case B leaves in output 7's staging buffer: its pieces read back over junk. -/
def out0_B_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S8x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 hc2 x0 x1 x2 x3 xo6 xo7 xs0).2.2.2.1)

/-- Case B's pieces for scratch `arg10`, which the kernel carries between points, cover it: 1 piece of `S1024x4096` tiling it (Lib/Ring.lean `Piece.tiledL`). -/
theorem scover0_B_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) (y : S1024x4096.Idx) :
    ∃ pc ∈ (kernelRun0_B c i arg2 harg2 arg3 harg3 arg4 harg4 arg5 harg5 arg6 harg6 arg7 harg7 arg8 harg8 arg9 harg9 arg10 harg10 hc0 hc1 hc2 x0 x1 x2 x3 xo6 xo7 xs0).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 x3 xo6 xo7 xs0).2.2.2.2.1 S1024x4096.size (by sl_kernel_rfl) y

/-- What case B leaves in scratch `arg10`: its pieces read back over junk. -/
def sout0_B_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S1024x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 x0 x1 x2 x3 xo6 xo7 xs0).2.2.2.2.1)

/-- Case C's pieces for output 4 tile its block (1 store of `S1024x4096`, checked by the kernel's evaluation: Lib/Ring.lean `Piece.tiledL`, linear in the pieces, through a loop's `@[irreducible]` trip theorem too), so they cover it. -/
theorem cover0_C_4 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) (y : S1024x4096.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 xo6 xo7 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 xo6 xo7 xs0).1 S1024x4096.size (by sl_kernel_rfl) y

/-- What case C leaves in output 4's staging buffer: its pieces read back over junk. -/
def out0_C_4 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S1024x4096 .bf16 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 hc2 x0 x1 x2 x3 xo6 xo7 xs0).1)

/-- Case C's pieces for output 5 tile its block (1 store of `S1024x1024`, checked by the kernel's evaluation: Lib/Ring.lean `Piece.tiledL`, linear in the pieces, through a loop's `@[irreducible]` trip theorem too), so they cover it. -/
theorem cover0_C_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) (y : S1024x1024.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 xo6 xo7 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 xo6 xo7 xs0).2.1 S1024x1024.size (by sl_kernel_rfl) y

/-- What case C leaves in output 5's staging buffer: its pieces read back over junk. -/
def out0_C_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S1024x1024 .fp8e5m2 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 hc2 x0 x1 x2 x3 xo6 xo7 xs0).2.1)

/-- What case C leaves in output 6's staging buffer: its stores read back over what the point before left there (they do not cover the block). -/
def out0_C_6 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S8x14336 .f32 :=
  arg8.view.read (Elt F) (arg8.view.writes (Elt F) (harg8.unread xo6) (kernelRun0_C c i arg2 harg2 arg3 harg3 arg4 harg4 arg5 harg5 arg6 harg6 arg7 harg7 arg8 harg8 arg9 harg9 arg10 harg10 hc0 hc1 hc2 x0 x1 x2 x3 xo6 xo7 xs0).2.2.1)

/-- Case C's pieces for output 7 tile its block (1 store of `S8x1024`, checked by the kernel's evaluation: Lib/Ring.lean `Piece.tiledL`, linear in the pieces, through a loop's `@[irreducible]` trip theorem too), so they cover it. -/
theorem cover0_C_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) (y : S8x1024.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 xo6 xo7 xs0).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 xo6 xo7 xs0).2.2.2.1 S8x1024.size (by sl_kernel_rfl) y

/-- What case C leaves in output 7's staging buffer: its pieces read back over junk. -/
def out0_C_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S8x1024 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 hc2 x0 x1 x2 x3 xo6 xo7 xs0).2.2.2.1)

/-- Case C's pieces for scratch `arg10`, which the kernel carries between points, cover it: 1 piece of `S1024x4096` tiling it (Lib/Ring.lean `Piece.tiledL`). -/
theorem scover0_C_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) (y : S1024x4096.Idx) :
    ∃ pc ∈ (kernelRun0_C c i arg2 harg2 arg3 harg3 arg4 harg4 arg5 harg5 arg6 harg6 arg7 harg7 arg8 harg8 arg9 harg9 arg10 harg10 hc0 hc1 hc2 x0 x1 x2 x3 xo6 xo7 xs0).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 x3 xo6 xo7 xs0).2.2.2.2.1 S1024x4096.size (by sl_kernel_rfl) y

/-- What case C leaves in scratch `arg10`: its pieces read back over junk. -/
def sout0_C_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : ¬cond0_1 i) (hc2 : cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (xs0 : Vec F S1024x4096 .f32) : Vec F S1024x4096 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 hc2 x0 x1 x2 x3 xo6 xo7 xs0).2.2.2.2.1)

/-- Case D stores nothing into output 4 (the window is idle at its points and not written back there):
    no pieces — a placeholder (junk read back) that nothing consults, since at these points the window is neither
    written back nor read at the next point (Lib/Pipeline.lean "Idle points"). -/
def out0_D_4 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) : Vec F S1024x4096 .bf16 :=
  VO0_4.read (Elt F) (VO0_4.writes (Elt F) VO0_4.junk (kernelRun0_D c i arg2 harg2 arg3 harg3 arg4 harg4 arg5 harg5 arg6 harg6 arg7 harg7 arg8 harg8 arg9 harg9 arg10 harg10 hc0 hc1 hc2 x0 x1 x2 x3 xo6 xo7).1)

/-- Case D's pieces for output 5 tile its block (1 store of `S1024x1024`, checked by the kernel's evaluation: Lib/Ring.lean `Piece.tiledL`, linear in the pieces, through a loop's `@[irreducible]` trip theorem too), so they cover it. -/
theorem cover0_D_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (y : S1024x1024.Idx) :
    ∃ pc ∈ (kernelRun0_D c i arg2 harg2 arg3 harg3 arg4 harg4 arg5 harg5 arg6 harg6 arg7 harg7 arg8 harg8 arg9 harg9 arg10 harg10 hc0 hc1 hc2 x0 x1 x2 x3 xo6 xo7).2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 x0 x1 x2 x3 xo6 xo7).2.1 S1024x1024.size (by sl_kernel_rfl) y

/-- What case D leaves in output 5's staging buffer: its pieces read back over junk. -/
def out0_D_5 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) : Vec F S1024x1024 .fp8e5m2 :=
  VO0_5.read (Elt F) (VO0_5.writes (Elt F) VO0_5.junk (kernelRun0_D c i arg2 harg2 arg3 harg3 arg4 harg4 arg5 harg5 arg6 harg6 arg7 harg7 arg8 harg8 arg9 harg9 arg10 harg10 hc0 hc1 hc2 x0 x1 x2 x3 xo6 xo7).2.1)

/-- What case D leaves in output 6's staging buffer: its stores read back over what the point before left there (they do not cover the block). -/
def out0_D_6 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) : Vec F S8x14336 .f32 :=
  arg8.view.read (Elt F) (arg8.view.writes (Elt F) (harg8.unread xo6) (kernelRun0_D c i arg2 harg2 arg3 harg3 arg4 harg4 arg5 harg5 arg6 harg6 arg7 harg7 arg8 harg8 arg9 harg9 arg10 harg10 hc0 hc1 hc2 x0 x1 x2 x3 xo6 xo7).2.2.1)

/-- Case D's pieces for output 7 tile its block (1 store of `S8x1024`, checked by the kernel's evaluation: Lib/Ring.lean `Piece.tiledL`, linear in the pieces, through a loop's `@[irreducible]` trip theorem too), so they cover it. -/
theorem cover0_D_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (y : S8x1024.Idx) :
    ∃ pc ∈ (kernelRun0_D c i arg2 harg2 arg3 harg3 arg4 harg4 arg5 harg5 arg6 harg6 arg7 harg7 arg8 harg8 arg9 harg9 arg10 harg10 hc0 hc1 hc2 x0 x1 x2 x3 xo6 xo7).2.2.2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 x0 x1 x2 x3 xo6 xo7).2.2.2.1 S8x1024.size (by sl_kernel_rfl) y

/-- What case D leaves in output 7's staging buffer: its pieces read back over junk. -/
def out0_D_7 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) : Vec F S8x1024 .f32 :=
  VO0_7.read (Elt F) (VO0_7.writes (Elt F) VO0_7.junk (kernelRun0_D c i arg2 harg2 arg3 harg3 arg4 harg4 arg5 harg5 arg6 harg6 arg7 harg7 arg8 harg8 arg9 harg9 arg10 harg10 hc0 hc1 hc2 x0 x1 x2 x3 xo6 xo7).2.2.2.1)

/-- Case D's pieces for scratch `arg10`, which the kernel carries between points, cover it: 2 pieces of `S1024x4096` tiling it (Lib/Ring.lean `Piece.tiledL`). -/
theorem scover0_D_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) (y : S1024x4096.Idx) :
    ∃ pc ∈ (kernelRun0_D c i arg2 harg2 arg3 harg3 arg4 harg4 arg5 harg5 arg6 harg6 arg7 harg7 arg8 harg8 arg9 harg9 arg10 harg10 hc0 hc1 hc2 x0 x1 x2 x3 xo6 xo7).2.2.2.2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 x0 x1 x2 x3 xo6 xo7).2.2.2.2.1 S1024x4096.size (by sl_kernel_rfl) y

/-- What case D leaves in scratch `arg10`: its pieces read back over junk. -/
def sout0_D_0 (c : Dev nD) (i : grid0.Coords) (arg2 : Memref sig .tc .smem S1 .f32) (harg2 : arg2.IsWhole) (arg3 : Memref sig .tc .smem S1 .f32) (harg3 : arg3.IsWhole) (arg4 : Memref sig .tc .vmem S1024x1024 .bf16) (harg4 : arg4.IsWhole) (arg5 : Memref sig .tc .vmem S1024x4096 .fp8e4m3) (harg5 : arg5.IsWhole) (arg6 : Memref sig .tc .vmem S1024x4096 .bf16) (harg6 : arg6.IsWhole) (arg7 : Memref sig .tc .vmem S1024x1024 .fp8e5m2) (harg7 : arg7.IsWhole) (arg8 : Memref sig .tc .vmem S8x14336 .f32) (harg8 : arg8.IsWhole) (arg9 : Memref sig .tc .vmem S8x1024 .f32) (harg9 : arg9.IsWhole) (arg10 : Memref sig .tc .vmem S1024x4096 .f32) (harg10 : arg10.IsWhole) (hc0 : ¬cond0_0 i) (hc1 : cond0_1 i) (hc2 : ¬cond0_2 i)
    (x0 : Vec F S1 .f32) (x1 : Vec F S1 .f32) (x2 : Vec F S1024x1024 .bf16) (x3 : Vec F S1024x4096 .fp8e4m3) (xo6 : Vec F S8x14336 .f32) (xo7 : Vec F S8x1024 .f32) : Vec F S1024x4096 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 hc0 hc1 hc2 x0 x1 x2 x3 xo6 xo7).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x4096 .bf16 × Vec F S1024x1024 .fp8e5m2 × Vec F S8x14336 .f32 × Vec F S8x1024 .f32 × Vec F S1024x4096 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 224 = 0 then
      if h1 : (n + 1) % 14 = 0 then
        if h2 : (n + 1) % 14 = 13 then
          False.elim (by have hN : n + 1 < 224 := lt_of_lt_of_eq hn (show cfg0.N = 224 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩))
      else
        False.elim (by have hN : n + 1 < 224 := lt_of_lt_of_eq hn (show cfg0.N = 224 from N_0); omega)
    else
      if h1 : (n + 1) % 14 = 0 then
        if h2 : (n + 1) % 14 = 13 then
          False.elim (by have hN : n + 1 < 224 := lt_of_lt_of_eq hn (show cfg0.N = 224 from N_0); omega)
        else
          (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1, out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1, out0_D_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1)
      else
        if h2 : (n + 1) % 14 = 13 then
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)
        else
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 224 = 0) (h1 : t.val % 14 = 0) (h2 : ¬t.val % 14 = 13) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk V c 0 t) (iblk V c 1 t) (iblk V c 2 t) (iblk V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk V c 0 t) (iblk V c 1 t) (iblk V c 2 t) (iblk V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk V c 0 t) (iblk V c 1 t) (iblk V c 2 t) (iblk V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) ((hcond0_1 t).mpr h1) (fun h => h2 ((hcond0_2 t).mp h)) (iblk V c 0 t) (iblk V c 1 t) (iblk V c 2 t) (iblk V c 3 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 224 = 0) (h1 : ¬t.val % 14 = 0) (h2 : ¬t.val % 14 = 13) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 224 = 0) (h1 : ¬t.val % 14 = 0) (h2 : t.val % 14 = 13) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case D: that case's contents, over what the point before left. -/
theorem outsAt0_D (c : Dev nD) (t : Fin cfg0.N) (h0 : ¬t.val % 224 = 0) (h1 : t.val % 14 = 0) (h2 : ¬t.val % 14 = 13) :
    outsAt0 V c t.val t.isLt = (out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1, out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1, out0_D_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2)) ∗ Rest c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2.2.2)) ∗ Rest c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2)) ∗ Rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats V c).A w = V c (Pipeline.arrRef spec0 w) := by
  dsimp only [dats]

/-- The invariant at a point's start (the proof data at `t.castSucc`), restated at `t.val`. -/
theorem PhiS_castSucc (c : Dev nD) (t : Fin cfg0.N) :
    (dats V c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = (outsAt0 V c t.val t.isLt).1 := by dsimp only [dats]
theorem after0_5 (c : Dev nD) (t : Fin cfg0.N) : (dats V c).after 5 t = (outsAt0 V c t.val t.isLt).2.1 := by dsimp only [dats]
theorem after0_6 (c : Dev nD) (t : Fin cfg0.N) : (dats V c).after 6 t = (outsAt0 V c t.val t.isLt).2.2.1 := by dsimp only [dats]
theorem after0_7 (c : Dev nD) (t : Fin cfg0.N) : (dats V c).after 7 t = (outsAt0 V c t.val t.isLt).2.2.2.1 := by dsimp only [dats]

/-- Each input's current staging buffer holds its block at every point, fetched there or not (`beforeK_W_of`). -/
theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 224 = 0) (h1 : ¬t.val % 14 = 0) (h2 : ¬t.val % 14 = 13) (d) :
    (dats V c).before 6 t d = (outsAt0 V c (t.val - 1) (Nat.lt_of_le_of_lt (Nat.sub_le _ _) t.isLt)).2.2.1 := by
  have hN : t.val < 224 := lt_of_lt_of_eq t.isLt (show cfg0.N = 224 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 224 = 0) (h1 : ¬t.val % 14 = 0) (h2 : ¬t.val % 14 = 13) (d) :
    (dats V c).before 7 t d = (outsAt0 V c (t.val - 1) (Nat.lt_of_le_of_lt (Nat.sub_le _ _) t.isLt)).2.2.2.1 := by
  have hN : t.val < 224 := lt_of_lt_of_eq t.isLt (show cfg0.N = 224 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case C output 6's current staging buffer holds what the body left at the point before: the point is
    not the first, the buffer was not written back between (`flush0_6`), the window is live and uncut (Lib/Pipeline/Frame.lean
    `Dat.before_out_kept`). -/
theorem before0_6_C (c : Dev nD) (t : Fin cfg0.N) (h0 : ¬t.val % 224 = 0) (h1 : ¬t.val % 14 = 0) (h2 : t.val % 14 = 13) (d) :
    (dats V c).before 6 t d = (outsAt0 V c (t.val - 1) (Nat.lt_of_le_of_lt (Nat.sub_le _ _) t.isLt)).2.2.1 := by
  have hN : t.val < 224 := lt_of_lt_of_eq t.isLt (show cfg0.N = 224 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case C output 7's current staging buffer holds what the body left at the point before: the point is
    not the first, the buffer was not written back between (`flush0_7`), the window is live and uncut (Lib/Pipeline/Frame.lean
    `Dat.before_out_kept`). -/
theorem before0_7_C (c : Dev nD) (t : Fin cfg0.N) (h0 : ¬t.val % 224 = 0) (h1 : ¬t.val % 14 = 0) (h2 : t.val % 14 = 13) (d) :
    (dats V c).before 7 t d = (outsAt0 V c (t.val - 1) (Nat.lt_of_le_of_lt (Nat.sub_le _ _) t.isLt)).2.2.2.1 := by
  have hN : t.val < 224 := lt_of_lt_of_eq t.isLt (show cfg0.N = 224 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case D output 6's current staging buffer holds what the body left at the point before: the point is
    not the first, the buffer was not written back between (`flush0_6`), the window is live and uncut (Lib/Pipeline/Frame.lean
    `Dat.before_out_kept`). -/
theorem before0_6_D (c : Dev nD) (t : Fin cfg0.N) (h0 : ¬t.val % 224 = 0) (h1 : t.val % 14 = 0) (h2 : ¬t.val % 14 = 13) (d) :
    (dats V c).before 6 t d = (outsAt0 V c (t.val - 1) (Nat.lt_of_le_of_lt (Nat.sub_le _ _) t.isLt)).2.2.1 := by
  have hN : t.val < 224 := lt_of_lt_of_eq t.isLt (show cfg0.N = 224 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case D output 7's current staging buffer holds what the body left at the point before: the point is
    not the first, the buffer was not written back between (`flush0_7`), the window is live and uncut (Lib/Pipeline/Frame.lean
    `Dat.before_out_kept`). -/
theorem before0_7_D (c : Dev nD) (t : Fin cfg0.N) (h0 : ¬t.val % 224 = 0) (h1 : t.val % 14 = 0) (h2 : ¬t.val % 14 = 13) (d) :
    (dats V c).before 7 t d = (outsAt0 V c (t.val - 1) (Nat.lt_of_le_of_lt (Nat.sub_le _ _) t.isLt)).2.2.2.1 := by
  have hN : t.val < 224 := lt_of_lt_of_eq t.isLt (show cfg0.N = 224 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d))
    ∗ (∃ d, owns (c : Thread nD τ) (ms0_6 t) fullShare ((dats V c).before 6 t d))
    ∗ (∃ d, owns (c : Thread nD τ) (ms0_7 t) fullShare ((dats V c).before 7 t d)))

/-- and what it returns. -/
def bodyPost (c : Dev nD) (t : Fin cfg0.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t
    ∗ (dats V c).leavesExact 6 t
    ∗ (dats V c).leavesExact 7 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dats V c).owesAt () t.succ = (dats V c).owesAt () t.castSucc from rfl]
  rw [show (dats V c).Φ t.succ = PhiS V c (t.val + 1) t.isLt from rfl, PhiS_succ]
  have hN : t.val < 224 := lt_of_lt_of_eq t.isLt (show cfg0.N = 224 from N_0)
  by_cases h0 : t.val % 224 = 0
  · by_cases h1 : t.val % 14 = 0
    · by_cases h2 : t.val % 14 = 13
      · exfalso; omega
      · rw [show (dats V c).leavesExact 0 t = owns (c : Thread nD τ) (ms0_0 t) fullShare ((dats V c).after 0 t) from by
      unfold Dat.leavesExact; rw [liveAt0_0 t], after0_0]
        rw [show (dats V c).leavesExact 1 t = owns (c : Thread nD τ) (ms0_1 t) fullShare ((dats V c).after 1 t) from by
      unfold Dat.leavesExact; rw [liveAt0_1 t], after0_1]
        rw [show (dats V c).leavesExact 2 t = owns (c : Thread nD τ) (ms0_2 t) fullShare ((dats V c).after 2 t) from by
      unfold Dat.leavesExact; rw [liveAt0_2 t], after0_2]
        rw [show (dats V c).leavesExact 3 t = owns (c : Thread nD τ) (ms0_3 t) fullShare ((dats V c).after 3 t) from by
      unfold Dat.leavesExact; rw [liveAt0_3 t], after0_3]
        rw [Dat.leavesExact_idle (dats V c) 4 t (idleAt0_4_A t ((hcond0_0 t).mpr h0) ((hcond0_1 t).mpr h1) (fun h => h2 ((hcond0_2 t).mp h))) (noFlush0_4_A t ((hcond0_0 t).mpr h0) ((hcond0_1 t).mpr h1) (fun h => h2 ((hcond0_2 t).mp h)))]
        rw [show (dats V c).leavesExact 5 t = owns (c : Thread nD τ) (ms0_5 t) fullShare ((dats V c).after 5 t) from by
      unfold Dat.leavesExact; rw [liveAt0_5 t], after0_5]
        rw [show (dats V c).leavesExact 6 t = owns (c : Thread nD τ) (ms0_6 t) fullShare ((dats V c).after 6 t) from by
      unfold Dat.leavesExact; rw [liveAt0_6 t], after0_6]
        rw [show (dats V c).leavesExact 7 t = owns (c : Thread nD τ) (ms0_7 t) fullShare ((dats V c).after 7 t) from by
      unfold Dat.leavesExact; rw [liveAt0_7 t], after0_7]
        by_cases hz : t.val = 0
        · rw [PhiS_castSucc V c t, PhiS_zero V c _ _ hz, PhiA0_eq]
          rw [outsAt0_A V c t h0 h1 h2]
          unfold out0_A_5 out0_A_6 out0_A_7 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk V c 0 t) (iblk V c 1 t) (iblk V c 2 t) (iblk V c 3 t)).2.2.2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [HS0]; · iexact HS0
          iintro ⟨H0, H1, H2, H3, H4, ⟨%e5, H5⟩, ⟨%e6, H6⟩, ⟨%e7, H7⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexists _; iexact H4
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _)
          unfold owns; iexists _; isplitr
          swap; · iexact H7
          ipureintro; exact View.read_writes_of_cover _ _ _ _ _ (cover0_A_7 c _ _ _ _ _ _ _ _ _ _ _ _ _ _ _ _ _ _ _ _ _ _ _ _ _ _)
        · exfalso; have hN : t.val < 224 := lt_of_lt_of_eq t.isLt (show cfg0.N = 224 from N_0); omega
    · exfalso; omega
  · by_cases h1 : t.val % 14 = 0
    · by_cases h2 : t.val % 14 = 13
      · exfalso; omega
      · rw [show (dats V c).leavesExact 0 t = owns (c : Thread nD τ) (ms0_0 t) fullShare ((dats V c).after 0 t) from by
      unfold Dat.leavesExact; rw [liveAt0_0 t], after0_0]
        rw [show (dats V c).leavesExact 1 t = owns (c : Thread nD τ) (ms0_1 t) fullShare ((dats V c).after 1 t) from by
      unfold Dat.leavesExact; rw [liveAt0_1 t], after0_1]
        rw [show (dats V c).leavesExact 2 t = owns (c : Thread nD τ) (ms0_2 t) fullShare ((dats V c).after 2 t) from by
      unfold Dat.leavesExact; rw [liveAt0_2 t], after0_2]
        rw [show (dats V c).leavesExact 3 t = owns (c : Thread nD τ) (ms0_3 t) fullShare ((dats V c).after 3 t) from by
      unfold Dat.leavesExact; rw [liveAt0_3 t], after0_3]
        rw [Dat.leavesExact_idle (dats V c) 4 t (idleAt0_4_D t (fun h => h0 ((hcond0_0 t).mp h)) ((hcond0_1 t).mpr h1) (fun h => h2 ((hcond0_2 t).mp h))) (noFlush0_4_D t (fun h => h0 ((hcond0_0 t).mp h)) ((hcond0_1 t).mpr h1) (fun h => h2 ((hcond0_2 t).mp h)))]
        rw [show (dats V c).leavesExact 5 t = owns (c : Thread nD τ) (ms0_5 t) fullShare ((dats V c).after 5 t) from by
      unfold Dat.leavesExact; rw [liveAt0_5 t], after0_5]
        rw [show (dats V c).leavesExact 6 t = owns (c : Thread nD τ) (ms0_6 t) fullShare ((dats V c).after 6 t) from by
      unfold Dat.leavesExact; rw [liveAt0_6 t], after0_6]
        rw [show (dats V c).leavesExact 7 t = owns (c : Thread nD τ) (ms0_7 t) fullShare ((dats V c).after 7 t) from by
      unfold Dat.leavesExact; rw [liveAt0_7 t], after0_7]
        by_cases hz : t.val = 0
        · exfalso; have hN : t.val < 224 := lt_of_lt_of_eq t.isLt (show cfg0.N = 224 from N_0); omega
        · rw [PhiS_castSucc V c t, PhiS_pos V c _ _ hz]
          rw [outsAt0_D V c t h0 h1 h2]
          simp only [before0_6_D V c t h0 h1 h2, before0_7_D V c t h0 h1 h2]
          unfold out0_D_5 out0_D_6 out0_D_7 sout0_D_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_D c (grid0.coords t) _ _ _ _ _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) _ _).2.2.2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexact H6
          isplitl [H7]; · iexact H7
          isplitl [HS0]; · iexists _; iexact HS0
          iintro ⟨H0, H1, H2, H3, H4, ⟨%e5, H5⟩, H6, ⟨%e7, H7⟩, ⟨%es0, HS0⟩⟩
          isplitl [HS0 Hg]
          · isplitl [HS0]
            · unfold owns; iexists _; isplitr
              swap; · iexact HS0
              ipureintro; exact View.read_writes_of_cover _ _ _ _ _ (scover0_D_0 c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexists _; iexact H4
          isplitl [H5]
          · unfold owns; iexists _; isplitr
            swap; · iexact H5
            ipureintro; exact View.read_writes_of_cover _ _ _ _ _ (cover0_D_5 c _ _ _ _ _ _ _ _ _ _ _ _ _ _ _ _ _ _ _ _ _ _ _ _ _ _ _ _)
          isplitl [H6]
          · unfold owns; iexists _; isplitr
            swap; · iexact H6
            ipureintro; rfl
          unfold owns; iexists _; isplitr
          swap; · iexact H7
          ipureintro; exact View.read_writes_of_cover _ _ _ _ _ (cover0_D_7 c _ _ _ _ _ _ _ _ _ _ _ _ _ _ _ _ _ _ _ _ _ _ _ _ _ _ _ _)
    · by_cases h2 : t.val % 14 = 13
      · rw [show (dats V c).leavesExact 0 t = owns (c : Thread nD τ) (ms0_0 t) fullShare ((dats V c).after 0 t) from by
      unfold Dat.leavesExact; rw [liveAt0_0 t], after0_0]
        rw [show (dats V c).leavesExact 1 t = owns (c : Thread nD τ) (ms0_1 t) fullShare ((dats V c).after 1 t) from by
      unfold Dat.leavesExact; rw [liveAt0_1 t], after0_1]
        rw [show (dats V c).leavesExact 2 t = owns (c : Thread nD τ) (ms0_2 t) fullShare ((dats V c).after 2 t) from by
      unfold Dat.leavesExact; rw [liveAt0_2 t], after0_2]
        rw [show (dats V c).leavesExact 3 t = owns (c : Thread nD τ) (ms0_3 t) fullShare ((dats V c).after 3 t) from by
      unfold Dat.leavesExact; rw [liveAt0_3 t], after0_3]
        rw [show (dats V c).leavesExact 4 t = owns (c : Thread nD τ) (ms0_4 t) fullShare ((dats V c).after 4 t) from by
      unfold Dat.leavesExact; rw [liveAt0_4_C t (fun h => h0 ((hcond0_0 t).mp h)) (fun h => h1 ((hcond0_1 t).mp h)) ((hcond0_2 t).mpr h2)], after0_4]
        rw [show (dats V c).leavesExact 5 t = owns (c : Thread nD τ) (ms0_5 t) fullShare ((dats V c).after 5 t) from by
      unfold Dat.leavesExact; rw [liveAt0_5 t], after0_5]
        rw [show (dats V c).leavesExact 6 t = owns (c : Thread nD τ) (ms0_6 t) fullShare ((dats V c).after 6 t) from by
      unfold Dat.leavesExact; rw [liveAt0_6 t], after0_6]
        rw [show (dats V c).leavesExact 7 t = owns (c : Thread nD τ) (ms0_7 t) fullShare ((dats V c).after 7 t) from by
      unfold Dat.leavesExact; rw [liveAt0_7 t], after0_7]
        by_cases hz : t.val = 0
        · exfalso; have hN : t.val < 224 := lt_of_lt_of_eq t.isLt (show cfg0.N = 224 from N_0); omega
        · rw [PhiS_castSucc V c t, PhiS_pos V c _ _ hz]
          rw [outsAt0_C V c t h0 h1 h2]
          simp only [before0_6_C V c t h0 h1 h2, before0_7_C V c t h0 h1 h2]
          unfold out0_C_4 out0_C_5 out0_C_6 out0_C_7 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk V c 0 t) (iblk V c 1 t) (iblk V c 2 t) (iblk V c 3 t) _ _ _).2.2.2.2.2 Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexact H6
          isplitl [H7]; · iexact H7
          isplitl [HS0]; · iexact HS0
          iintro ⟨H0, H1, H2, H3, ⟨%e4, H4⟩, ⟨%e5, H5⟩, H6, ⟨%e7, H7⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_C_4 c _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _)
          isplitl [H6]
          · unfold owns; iexists _; isplitr
            swap; · iexact H6
            ipureintro; rfl
          unfold owns; iexists _; isplitr
          swap; · iexact H7
          ipureintro; exact View.read_writes_of_cover _ _ _ _ _ (cover0_C_7 c _ _ _ _ _ _ _ _ _ _ _ _ _ _ _ _ _ _ _ _ _ _ _ _ _ _ _ _ _)
      · rw [show (dats V c).leavesExact 0 t = owns (c : Thread nD τ) (ms0_0 t) fullShare ((dats V c).after 0 t) from by
      unfold Dat.leavesExact; rw [liveAt0_0 t], after0_0]
        rw [show (dats V c).leavesExact 1 t = owns (c : Thread nD τ) (ms0_1 t) fullShare ((dats V c).after 1 t) from by
      unfold Dat.leavesExact; rw [liveAt0_1 t], after0_1]
        rw [show (dats V c).leavesExact 2 t = owns (c : Thread nD τ) (ms0_2 t) fullShare ((dats V c).after 2 t) from by
      unfold Dat.leavesExact; rw [liveAt0_2 t], after0_2]
        rw [show (dats V c).leavesExact 3 t = owns (c : Thread nD τ) (ms0_3 t) fullShare ((dats V c).after 3 t) from by
      unfold Dat.leavesExact; rw [liveAt0_3 t], after0_3]
        rw [Dat.leavesExact_idle (dats V c) 4 t (idleAt0_4_B t (fun h => h0 ((hcond0_0 t).mp h)) (fun h => h1 ((hcond0_1 t).mp h)) (fun h => h2 ((hcond0_2 t).mp h))) (noFlush0_4_B t (fun h => h0 ((hcond0_0 t).mp h)) (fun h => h1 ((hcond0_1 t).mp h)) (fun h => h2 ((hcond0_2 t).mp h)))]
        rw [show (dats V c).leavesExact 5 t = owns (c : Thread nD τ) (ms0_5 t) fullShare ((dats V c).after 5 t) from by
      unfold Dat.leavesExact; rw [liveAt0_5 t], after0_5]
        rw [show (dats V c).leavesExact 6 t = owns (c : Thread nD τ) (ms0_6 t) fullShare ((dats V c).after 6 t) from by
      unfold Dat.leavesExact; rw [liveAt0_6 t], after0_6]
        rw [show (dats V c).leavesExact 7 t = owns (c : Thread nD τ) (ms0_7 t) fullShare ((dats V c).after 7 t) from by
      unfold Dat.leavesExact; rw [liveAt0_7 t], after0_7]
        by_cases hz : t.val = 0
        · exfalso; have hN : t.val < 224 := lt_of_lt_of_eq t.isLt (show cfg0.N = 224 from N_0); omega
        · rw [PhiS_castSucc V c t, PhiS_pos V c _ _ hz]
          rw [outsAt0_B V c t h0 h1 h2]
          simp only [before0_6_B V c t h0 h1 h2, before0_7_B V c t h0 h1 h2]
          unfold out0_B_5 out0_B_6 out0_B_7 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun0_B c (grid0.coords t) _ _ _ _ _ _ _ _ _ _ _ _ _ _ _ _ _ _ (fun h => h0 ((hcond0_0 t).mp h)) (fun h => h1 ((hcond0_1 t).mp h)) (fun h => h2 ((hcond0_2 t).mp h)) (iblk V c 0 t) (iblk V c 1 t) (iblk V c 2 t) (iblk V c 3 t) _ _ _).2.2.2.2.2 _ Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexact H6
          isplitl [H7]; · iexact H7
          isplitl [HS0]; · iexact HS0
          iintro ⟨H0, H1, H2, H3, H4, ⟨%e5, H5⟩, H6, ⟨%e7, H7⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexists _; iexact H4
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _)
          isplitl [H6]
          · unfold owns; iexists _; isplitr
            swap; · iexact H6
            ipureintro; rfl
          unfold owns; iexists _; isplitr
          swap; · iexact H7
          ipureintro; exact View.read_writes_of_cover _ _ _ _ _ (cover0_B_7 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dats V c).Φ 0 := by
  rw [show (dats V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats V c).Φ t ⊢ Pipeline.ΦA spec0 c := by
  rw [show (dats V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dats V c).Φ (Fin.last cfg0.N) ⊢ Pipeline.ΦA spec0 c :=
  Phi_out V c _ (by rw [Fin.val_last]; have : cfg0.N = 224 := N_0; omega)

end Cert.KernelIdeal.Dgrad

end
-- ==== Proof.Wgrad.Runs.lean ====
/- The region of the `cc1_wgrad` call: what its body's runs share. The blocks the body is handed, the branch conditions in
   closed form over the grid points, where a window is idle, the staging and scratch buffers by name. Everything is stated
   over the contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 2).val) 0#32)) 0#32) = 1#1
/-- It holds at the points ≡ 0 (mod 16) — by arithmetic of the point. -/
theorem hcond0_0 : ∀ t : Fin cfg1.N, cond0_0 (grid1.coords t) ↔ t.val % 16 = 0 :=
  (fun t => by
    have ht : t.val < 448 := Nat.lt_of_lt_of_eq t.isLt N_1
    have e0 : (grid1.coords t 0).val = t.val / 32 % 14 := Pipeline.Grid.coords_val t 0 (by decide) rfl
    have e1 : (grid1.coords t 1).val = t.val / 16 % 2 := Pipeline.Grid.coords_val t 1 (by decide) rfl
    have e2 : (grid1.coords t 2).val = t.val / 1 % 16 := Pipeline.Grid.coords_val t 2 (by decide) rfl
    simp only [cond0_0, e0, e1, e2]
    word_cmp
   : ∀ t : Fin grid1.N, cond0_0 (grid1.coords t) ↔ t.val % 16 = 0)

/-- The condition of the body's `scf.if` 1 (`k1_h2`), from the grid coordinates (the skeleton's scalar
    chain substituted). -/
abbrev cond0_1 (i : grid1.Coords) : Prop := k1_cond2 i = 1#1
/-- It holds at the points ≡ 15 (mod 16) — by arithmetic of the point. -/
theorem hcond0_1 : ∀ t : Fin cfg1.N, cond0_1 (grid1.coords t) ↔ t.val % 16 = 15 :=
  (fun t => by
    have ht : t.val < 448 := Nat.lt_of_lt_of_eq t.isLt N_1
    have e0 : (grid1.coords t 0).val = t.val / 32 % 14 := Pipeline.Grid.coords_val t 0 (by decide) rfl
    have e1 : (grid1.coords t 1).val = t.val / 16 % 2 := Pipeline.Grid.coords_val t 1 (by decide) rfl
    have e2 : (grid1.coords t 2).val = t.val / 1 % 16 := Pipeline.Grid.coords_val t 2 (by decide) rfl
    simp only [cond0_1, k1_cond2, e0, e1, e2]
    word_cmp
   : ∀ t : Fin grid1.N, cond0_1 (grid1.coords t) ↔ t.val % 16 = 15)

/-! ## Where the windows are idle (the printed configuration's table `Cfg.idle`) -/

/-- Window 0 is never idle (an input). -/
theorem liveAt0_0 : ∀ t : Fin cfg1.N, cfg1.idle 0 (grid1.coords t) = false := fun _ => rfl
/-- Window 1 is never idle (an input). -/
theorem liveAt0_1 : ∀ t : Fin cfg1.N, cfg1.idle 1 (grid1.coords t) = false := fun _ => rfl
/-- Window 2 is never idle (an input). -/
theorem liveAt0_2 : ∀ t : Fin cfg1.N, cfg1.idle 2 (grid1.coords t) = false := fun _ => rfl
/-- Window 3 is never idle (an input). -/
theorem liveAt0_3 : ∀ t : Fin cfg1.N, cfg1.idle 3 (grid1.coords t) = false := fun _ => rfl
/-- At the points of case A the printed configuration (`Cfg.idle`) calls output 4 idle: the case stores nothing into it. -/
theorem idleAt0_4_A : ∀ t : Fin cfg1.N, cond0_0 (grid1.coords t) → ¬cond0_1 (grid1.coords t) → cfg1.idle 4 (grid1.coords t) = true := by decide +kernel
/-- At the points of case A the pipeline does not write output 4's block back. -/
theorem noFlush0_4_A : ∀ t : Fin cfg1.N, cond0_0 (grid1.coords t) → ¬cond0_1 (grid1.coords t) → (cfg1.win 4).flush t = false := by decide +kernel
/-- At the points of case B the printed configuration (`Cfg.idle`) calls output 4 idle: the case stores nothing into it. -/
theorem idleAt0_4_B : ∀ t : Fin cfg1.N, ¬cond0_0 (grid1.coords t) → ¬cond0_1 (grid1.coords t) → cfg1.idle 4 (grid1.coords t) = true := by decide +kernel
/-- At the points of case B the pipeline does not write output 4's block back. -/
theorem noFlush0_4_B : ∀ t : Fin cfg1.N, ¬cond0_0 (grid1.coords t) → ¬cond0_1 (grid1.coords t) → (cfg1.win 4).flush t = false := by decide +kernel
/-- At the points of case C the printed configuration (`Cfg.idle`) calls output 4 live: the case stores into it. -/
theorem liveAt0_4_C : ∀ t : Fin cfg1.N, ¬cond0_0 (grid1.coords t) → cond0_1 (grid1.coords t) → cfg1.idle 4 (grid1.coords t) = false := by decide +kernel

/-! ## The kernel body on any staging memrefs: a subtype the run finds -/

/-- One staging buffer of output window 4, through which its contents are stated (`View.read_writes_of_cover`: the
    choice does not matter). -/
abbrev VO0_4 : View sig .tc .vmem S1024x2048 .f32 := (Memref.whole cc1_stg4_0 : Memref sig .tc .vmem S1024x2048 .f32).view
/-- Each window's current staging memref at point `t`, spelled as the pipeline passes it (`bodyAt1`), and its wholeness. -/
abbrev ms0_0 (t : Fin cfg1.N) : Memref sig .tc .smem S1 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1024x1024 .fp8e5m2 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1024x2048 .fp8e4m3 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1024x2048 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1024x2048 .f32 := win1_4.stage (cfg1.slots t 4)
abbrev hs0_4 (t : Fin cfg1.N) : (ms0_4 t).IsWhole := hstage1_4 ((cfg1.slots t 4).cast nbuf1_4)
/-- The scratch operands: whole scoped buffers of the kernel's own, passed beside the windows. -/
abbrev scM0_0 : Memref sig .tc .vmem S1024x2048 .f32 := Memref.whole cc1_scratch0
/-- The scratch `arg8` the kernel carries between points, as a view: what it holds is stated through it. -/
abbrev VS0_0 : View sig .tc .vmem S1024x2048 .f32 := scM0_0.view

/-- What rides beside the carried scratch through the region: the other call's scoped buffers at anything and the
    generator register at some state. -/
def Rest (c : Dev nD) : sProp 𝕄 :=
  iprop((bigSepL [cc0_stg2_0, cc0_stg2_1, cc0_stg3_0, cc0_stg3_1, cc0_stg4_0, cc0_stg4_1, cc0_stg5_0, cc0_stg5_1, cc0_stg6_0, cc0_stg7_0, cc0_scratch0, cc0_stg0_0, cc0_stg1_0] fun b => iprop(∃ f, (c : Thread nD τ).loc b ↦{fullShare} f)) ∗ (∃ r, prngReg c r))

/-- The region's invariant with its scratch operand as a memref owned at some contents. -/
theorem PhiA0_eq (c : Dev nD) :
    (Pipeline.ΦA spec1 c : sProp 𝕄) = iprop(iprop((∃ d, owns (c : Thread nD τ) scM0_0 fullShare d)) ∗ Rest c) := by
  unfold Pipeline.ΦA Rest
  rw [Pipeline.scopedRest_eq_of_list spec1 c [cc1_scratch0, cc0_stg2_0, cc0_stg2_1, cc0_stg3_0, cc0_stg3_1, cc0_stg4_0, cc0_stg4_1, cc0_stg5_0, cc0_stg5_1, cc0_stg6_0, cc0_stg7_0, cc0_scratch0, cc0_stg0_0, cc0_stg1_0] (by decide) (by decide), bigSepL_cons_cons]
  simp only [scM0_0, owns_whole]
  exact BI.equiv_iff.mp ⟨BI.sep_assoc, BI.sep_assoc'⟩

end Cert.KernelIdeal.Wgrad

end
-- ==== Proof.Wgrad.RunA.lean ====
/- The region of the `cc1_wgrad` call: the run of the body in case A of its branch conditions, with the pieces each
   buffer ends with. -/
module

public import proofs.«01_k».proof.Proof.Wgrad.Runs

@[expose] public section

-- membership in a rectangle of production extents (`View.cover_of_tiled`): the elaborator's structural look
-- recurses once per coordinate of the long axes
set_option maxRecDepth 16384

noncomputable section

namespace Cert.KernelIdeal.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 432: 28 of 448), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : cond0_0 i) (hc1 : ¬cond0_1 i)
    (x0 : Vec F S1 .f32) (x1 : Vec F S1024x1024 .fp8e5m2) (x2 : Vec F S1024x2048 .fp8e4m3) (x3 : Vec F S1024x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_wgrad i arg3 harg3 arg4 harg4 arg5 harg5 arg6 harg6 arg7 harg7 arg8 harg8) K } := by
  refine ⟨[], ?_, fun xi4 E K => ?run⟩
  case run =>
    simp only [cc1_wgrad_eq_skeleton]; unfold cc1_wgrad_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Wgrad

end
-- ==== Proof.Wgrad.RunB.lean ====
/- The region of the `cc1_wgrad` call: the run of the body in case B of its branch conditions, with the pieces each
   buffer ends with. -/
module

public import proofs.«01_k».proof.Proof.Wgrad.RunA

@[expose] public section

-- membership in a rectangle of production extents (`View.cover_of_tiled`): the elaborator's structural look
-- recurses once per coordinate of the long axes
set_option maxRecDepth 16384

noncomputable section

namespace Cert.KernelIdeal.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 446: 392 of 448), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : ¬cond0_1 i)
    (x0 : Vec F S1 .f32) (x1 : Vec F S1024x1024 .fp8e5m2) (x2 : Vec F S1024x2048 .fp8e4m3) (x3 : Vec F S1024x2048 .f32) (xs0 : Vec F S1024x2048 .f32) :
    Σ' (L4 : List (View.Piece (Elt F) S1024x2048 .f32)), { LS0 : List (View.Piece (Elt F) S1024x2048 .f32) //
      ∀ (xi4 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1_wgrad i arg3 harg3 arg4 harg4 arg5 harg5 arg6 harg6 arg7 harg7 arg8 harg8) K } := by
  refine ⟨[], ?_, fun xi4 E K => ?run⟩
  case run =>
    simp only [cc1_wgrad_eq_skeleton]; unfold cc1_wgrad_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Wgrad

end
-- ==== Proof.Wgrad.RunC.lean ====
/- The region of the `cc1_wgrad` call: the run of the body in case C of its branch conditions, with the pieces each
   buffer ends with. -/
module

public import proofs.«01_k».proof.Proof.Wgrad.RunB

@[expose] public section

-- membership in a rectangle of production extents (`View.cover_of_tiled`): the elaborator's structural look
-- recurses once per coordinate of the long axes
set_option maxRecDepth 16384

noncomputable section

namespace Cert.KernelIdeal.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 447: 28 of 448), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1 .f32) (x1 : Vec F S1024x1024 .fp8e5m2) (x2 : Vec F S1024x2048 .fp8e4m3) (x3 : Vec F S1024x2048 .f32) (xs0 : Vec F S1024x2048 .f32) :
    Σ' (L4 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1_wgrad i arg3 harg3 arg4 harg4 arg5 harg5 arg6 harg6 arg7 harg7 arg8 harg8) K } := by
  refine ⟨?_, ?_, fun E K => ?run⟩
  case run =>
    simp only [cc1_wgrad_eq_skeleton]; unfold cc1_wgrad_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Wgrad

end
-- ==== Proof.Wgrad.Frame.lean ====
/- The region of the `cc1_wgrad` call: what each grid point leaves in the outputs and in the scratch carried between points
   (`outsAt0`), the proof data over the entry contents `V`, and the pipeline's obligation for the body. -/
module

public import proofs.«01_k».proof.Proof.Wgrad.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 4 (the window is idle at its points and not written back there):
    no pieces — a placeholder (junk read back) that nothing consults, since at these points the window is neither
    written back nor read at the next point (Lib/Pipeline.lean "Idle points"). -/
def out0_A_4 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : cond0_0 i) (hc1 : ¬cond0_1 i)
    (x0 : Vec F S1 .f32) (x1 : Vec F S1024x1024 .fp8e5m2) (x2 : Vec F S1024x2048 .fp8e4m3) (x3 : Vec F S1024x2048 .f32) : Vec F S1024x2048 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- Case A's pieces for scratch `arg8`, which the kernel carries between points, cover it: 2 pieces of `S1024x2048` tiling it (Lib/Ring.lean `Piece.tiledL`). -/
theorem scover0_A_0 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : cond0_0 i) (hc1 : ¬cond0_1 i)
    (x0 : Vec F S1 .f32) (x1 : Vec F S1024x1024 .fp8e5m2) (x2 : Vec F S1024x2048 .fp8e4m3) (x3 : Vec F S1024x2048 .f32) (y : S1024x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1024x2048.size (by sl_kernel_rfl) y

/-- What case A leaves in scratch `arg8`: its pieces read back over junk. -/
def sout0_A_0 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : cond0_0 i) (hc1 : ¬cond0_1 i)
    (x0 : Vec F S1 .f32) (x1 : Vec F S1024x1024 .fp8e5m2) (x2 : Vec F S1024x2048 .fp8e4m3) (x3 : Vec F S1024x2048 .f32) : Vec F S1024x2048 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : ¬cond0_1 i)
    (x0 : Vec F S1 .f32) (x1 : Vec F S1024x1024 .fp8e5m2) (x2 : Vec F S1024x2048 .fp8e4m3) (x3 : Vec F S1024x2048 .f32) (xs0 : Vec F S1024x2048 .f32) : Vec F S1024x2048 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- Case B's pieces for scratch `arg8`, which the kernel carries between points, cover it: 1 piece of `S1024x2048` tiling it (Lib/Ring.lean `Piece.tiledL`). -/
theorem scover0_B_0 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : ¬cond0_1 i)
    (x0 : Vec F S1 .f32) (x1 : Vec F S1024x1024 .fp8e5m2) (x2 : Vec F S1024x2048 .fp8e4m3) (x3 : Vec F S1024x2048 .f32) (xs0 : Vec F S1024x2048 .f32) (y : S1024x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1024x2048.size (by sl_kernel_rfl) y

/-- What case B leaves in scratch `arg8`: its pieces read back over junk. -/
def sout0_B_0 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : ¬cond0_1 i)
    (x0 : Vec F S1 .f32) (x1 : Vec F S1024x1024 .fp8e5m2) (x2 : Vec F S1024x2048 .fp8e4m3) (x3 : Vec F S1024x2048 .f32) (xs0 : Vec F S1024x2048 .f32) : Vec F S1024x2048 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- Case C's pieces for output 4 tile its block (1 store of `S1024x2048`, checked by the kernel's evaluation: Lib/Ring.lean `Piece.tiledL`, linear in the pieces, through a loop's `@[irreducible]` trip theorem too), so they cover it. -/
theorem cover0_C_4 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1 .f32) (x1 : Vec F S1024x1024 .fp8e5m2) (x2 : Vec F S1024x2048 .fp8e4m3) (x3 : Vec F S1024x2048 .f32) (xs0 : Vec F S1024x2048 .f32) (y : S1024x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1024x2048.size (by sl_kernel_rfl) y

/-- What case C leaves in output 4's staging buffer: its pieces read back over junk. -/
def out0_C_4 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1 .f32) (x1 : Vec F S1024x1024 .fp8e5m2) (x2 : Vec F S1024x2048 .fp8e4m3) (x3 : Vec F S1024x2048 .f32) (xs0 : Vec F S1024x2048 .f32) : Vec F S1024x2048 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- Case C's pieces for scratch `arg8`, which the kernel carries between points, cover it: 1 piece of `S1024x2048` tiling it (Lib/Ring.lean `Piece.tiledL`). -/
theorem scover0_C_0 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1 .f32) (x1 : Vec F S1024x1024 .fp8e5m2) (x2 : Vec F S1024x2048 .fp8e4m3) (x3 : Vec F S1024x2048 .f32) (xs0 : Vec F S1024x2048 .f32) (y : S1024x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1024x2048.size (by sl_kernel_rfl) y

/-- What case C leaves in scratch `arg8`: its pieces read back over junk. -/
def sout0_C_0 (c : Dev nD) (i : grid1.Coords) (arg3 : Memref sig .tc .smem S1 .f32) (harg3 : arg3.IsWhole) (arg4 : Memref sig .tc .vmem S1024x1024 .fp8e5m2) (harg4 : arg4.IsWhole) (arg5 : Memref sig .tc .vmem S1024x2048 .fp8e4m3) (harg5 : arg5.IsWhole) (arg6 : Memref sig .tc .vmem S1024x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1 .f32) (x1 : Vec F S1024x1024 .fp8e5m2) (x2 : Vec F S1024x2048 .fp8e4m3) (x3 : Vec F S1024x2048 .f32) (xs0 : Vec F S1024x2048 .f32) : Vec F S1024x2048 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S1024x2048 .f32 × Vec F S1024x2048 .f32
  | 0, hn => (out0_A_4 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 16 = 0 then
      if h1 : (n + 1) % 16 = 15 then
        False.elim (by have hN : n + 1 < 448 := lt_of_lt_of_eq hn (show cfg1.N = 448 from N_1); omega)
      else
        (out0_A_4 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 16 = 15 then
        (out0_C_4 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_C_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)
      else
        (out0_B_4 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

/-- `outsAt0` at a point of case A: that case's contents. -/
theorem outsAt0_A (c : Dev nD) (t : Fin cfg1.N) (h0 : t.val % 16 = 0) (h1 : ¬t.val % 16 = 15) :
    outsAt0 V c t.val t.isLt = (out0_A_4 c (grid1.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) (iblk V c 3 t), sout0_A_0 c (grid1.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg1.N) (h0 : ¬t.val % 16 = 0) (h1 : ¬t.val % 16 = 15) :
    outsAt0 V c t.val t.isLt = (out0_B_4 c (grid1.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg1.N) (h0 : ¬t.val % 16 = 0) (h1 : t.val % 16 = 15) :
    outsAt0 V c t.val t.isLt = (out0_C_4 c (grid1.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2, sout0_C_0 c (grid1.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2)) ∗ Rest c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2)) ∗ Rest c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2)) ∗ Rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dats V c).A w = V c (Pipeline.arrRef spec1 w) := by
  dsimp only [dats]

/-- The invariant at a point's start (the proof data at `t.castSucc`), restated at `t.val`. -/
theorem PhiS_castSucc (c : Dev nD) (t : Fin cfg1.N) :
    (dats V c).Φ t.castSucc = PhiS V c t.val (Nat.le_of_lt t.isLt) := by
  dsimp only [dats]; exact Pipeline.Dat.Φ_castSucc (PhiS V c) t

/-- What the body leaves, window by window (the proof data's `match` reduced by `dsimp`). -/
theorem after0_0 (c : Dev nD) (t : Fin cfg1.N) : (dats V c).after 0 t = iblk V c 0 t := by dsimp only [dats]
theorem after0_1 (c : Dev nD) (t : Fin cfg1.N) : (dats V c).after 1 t = iblk V c 1 t := by dsimp only [dats]
theorem after0_2 (c : Dev nD) (t : Fin cfg1.N) : (dats V c).after 2 t = iblk V c 2 t := by dsimp only [dats]
theorem after0_3 (c : Dev nD) (t : Fin cfg1.N) : (dats V c).after 3 t = iblk V c 3 t := by dsimp only [dats]
theorem after0_4 (c : Dev nD) (t : Fin cfg1.N) : (dats V c).after 4 t = (outsAt0 V c t.val t.isLt).1 := by dsimp only [dats]

/-- Each input's current staging buffer holds its block at every point, fetched there or not (`beforeK_W_of`). -/
theorem before0_0 (c : Dev nD) (t : Fin cfg1.N) (d) : (dats V c).before 0 t d = iblk V c 0 t :=
  before0_0_of V (dats V c) (A_eq V c 0) (after0_0 V c) t d
theorem before0_1 (c : Dev nD) (t : Fin cfg1.N) (d) : (dats V c).before 1 t d = iblk V c 1 t :=
  before0_1_of V (dats V c) (A_eq V c 1) (after0_1 V c) t d
theorem before0_2 (c : Dev nD) (t : Fin cfg1.N) (d) : (dats V c).before 2 t d = iblk V c 2 t :=
  before0_2_of V (dats V c) (A_eq V c 2) (after0_2 V c) t d
theorem before0_3 (c : Dev nD) (t : Fin cfg1.N) (d) : (dats V c).before 3 t d = iblk V c 3 t :=
  before0_3_of V (dats V c) (A_eq V c 3) (after0_3 V c) t d

/-! ## The body obligation, at a generic point -/

/-- What the body is called with at point `t` (Lib/Pipeline.lean `BodyObligation`'s precondition, the windows one by one), -/
def bodyPre (c : Dev nD) (t : Fin cfg1.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d)))

/-- and what it returns. -/
def bodyPost (c : Dev nD) (t : Fin cfg1.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3]
  rw [show (dats V c).owesAt () t.succ = (dats V c).owesAt () t.castSucc from rfl]
  rw [show (dats V c).Φ t.succ = PhiS V c (t.val + 1) t.isLt from rfl, PhiS_succ]
  have hN : t.val < 448 := lt_of_lt_of_eq t.isLt (show cfg1.N = 448 from N_1)
  by_cases h0 : t.val % 16 = 0
  · by_cases h1 : t.val % 16 = 15
    · exfalso; omega
    · rw [show (dats V c).leavesExact 0 t = owns (c : Thread nD τ) (ms0_0 t) fullShare ((dats V c).after 0 t) from by
      unfold Dat.leavesExact; rw [liveAt0_0 t], after0_0]
      rw [show (dats V c).leavesExact 1 t = owns (c : Thread nD τ) (ms0_1 t) fullShare ((dats V c).after 1 t) from by
      unfold Dat.leavesExact; rw [liveAt0_1 t], after0_1]
      rw [show (dats V c).leavesExact 2 t = owns (c : Thread nD τ) (ms0_2 t) fullShare ((dats V c).after 2 t) from by
      unfold Dat.leavesExact; rw [liveAt0_2 t], after0_2]
      rw [show (dats V c).leavesExact 3 t = owns (c : Thread nD τ) (ms0_3 t) fullShare ((dats V c).after 3 t) from by
      unfold Dat.leavesExact; rw [liveAt0_3 t], after0_3]
      rw [Dat.leavesExact_idle (dats V c) 4 t (idleAt0_4_A t ((hcond0_0 t).mpr h0) (fun h => h1 ((hcond0_1 t).mp h))) (noFlush0_4_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩⟩
        iapply ((kernelRun0_A c (grid1.coords t) _ _ _ _ _ _ _ _ _ _ _ _ ((hcond0_0 t).mpr h0) (fun h => h1 ((hcond0_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        rw [outsAt0_A V c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩⟩
        iapply ((kernelRun0_A c (grid1.coords t) _ _ _ _ _ _ _ _ _ _ _ _ ((hcond0_0 t).mpr h0) (fun h => h1 ((hcond0_1 t).mp h)) (iblk V c 0 t) (iblk V c 1 t) (iblk V c 2 t) (iblk V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dats V c).leavesExact 0 t = owns (c : Thread nD τ) (ms0_0 t) fullShare ((dats V c).after 0 t) from by
      unfold Dat.leavesExact; rw [liveAt0_0 t], after0_0]
      rw [show (dats V c).leavesExact 1 t = owns (c : Thread nD τ) (ms0_1 t) fullShare ((dats V c).after 1 t) from by
      unfold Dat.leavesExact; rw [liveAt0_1 t], after0_1]
      rw [show (dats V c).leavesExact 2 t = owns (c : Thread nD τ) (ms0_2 t) fullShare ((dats V c).after 2 t) from by
      unfold Dat.leavesExact; rw [liveAt0_2 t], after0_2]
      rw [show (dats V c).leavesExact 3 t = owns (c : Thread nD τ) (ms0_3 t) fullShare ((dats V c).after 3 t) from by
      unfold Dat.leavesExact; rw [liveAt0_3 t], after0_3]
      rw [show (dats V c).leavesExact 4 t = owns (c : Thread nD τ) (ms0_4 t) fullShare ((dats V c).after 4 t) from by
      unfold Dat.leavesExact; rw [liveAt0_4_C t (fun h => h0 ((hcond0_0 t).mp h)) ((hcond0_1 t).mpr h1)], after0_4]
      by_cases hz : t.val = 0
      · exfalso; have hN : t.val < 448 := lt_of_lt_of_eq t.isLt (show cfg1.N = 448 from N_1); omega
      · rw [PhiS_castSucc V c t, PhiS_pos V c _ _ hz]
        rw [outsAt0_C V c t h0 h1]
        unfold out0_C_4 sout0_C_0; (try dsimp only)
        iintro ⟨⟨HS0, Hg⟩, Ho, ⟨%d0, H0⟩, ⟨%d1, H1⟩, ⟨%d2, H2⟩, ⟨%d3, H3⟩, ⟨%d4, H4⟩⟩
        iapply ((kernelRun0_C c (grid1.coords t) _ _ _ _ _ _ _ _ _ _ _ _ (fun h => h0 ((hcond0_0 t).mp h)) ((hcond0_1 t).mpr h1) (iblk V c 0 t) (iblk V c 1 t) (iblk V c 2 t) (iblk V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dats V c).leavesExact 0 t = owns (c : Thread nD τ) (ms0_0 t) fullShare ((dats V c).after 0 t) from by
      unfold Dat.leavesExact; rw [liveAt0_0 t], after0_0]
      rw [show (dats V c).leavesExact 1 t = owns (c : Thread nD τ) (ms0_1 t) fullShare ((dats V c).after 1 t) from by
      unfold Dat.leavesExact; rw [liveAt0_1 t], after0_1]
      rw [show (dats V c).leavesExact 2 t = owns (c : Thread nD τ) (ms0_2 t) fullShare ((dats V c).after 2 t) from by
      unfold Dat.leavesExact; rw [liveAt0_2 t], after0_2]
      rw [show (dats V c).leavesExact 3 t = owns (c : Thread nD τ) (ms0_3 t) fullShare ((dats V c).after 3 t) from by
      unfold Dat.leavesExact; rw [liveAt0_3 t], after0_3]
      rw [Dat.leavesExact_idle (dats V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      by_cases hz : t.val = 0
      · exfalso; have hN : t.val < 448 := lt_of_lt_of_eq t.isLt (show cfg1.N = 448 from N_1); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩⟩
        iapply ((kernelRun0_B c (grid1.coords t) _ _ _ _ _ _ _ _ _ _ _ _ (fun h => h0 ((hcond0_0 t).mp h)) (fun h => h1 ((hcond0_1 t).mp h)) (iblk V c 0 t) (iblk V c 1 t) (iblk V c 2 t) (iblk V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dats V c).Φ 0 := by
  rw [show (dats V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dats V c).Φ t ⊢ Pipeline.ΦA spec1 c := by
  rw [show (dats V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dats V c).Φ (Fin.last cfg1.N) ⊢ Pipeline.ΦA spec1 c :=
  Phi_out V c _ (by rw [Fin.val_last]; have : cfg1.N = 448 := N_1; omega)

end Cert.KernelIdeal.Wgrad

end
-- ==== Proof.Run.lean ====
/- The whole kernel's run: @main is two TensorCore regions among three stretches of host operations. The buffers' contents
   at each boundary are a fold (`W0` … `W5`); each region is entered from one and left at the next; the launch over the five
   segments names the final contents of every unscoped buffer. -/
module

public import proofs.«01_k».proof.Proof.Dgrad.Frame
public import proofs.«01_k».proof.Proof.Wgrad.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v10, main_cst_0, main_v11, main_cst_1, main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (Dgrad.dats (V1 m ρ) c).arrAt w cfg0.N
theorem W2_arr (c : Dev nD) (w : Fin cfg0.W) :
    W2 m ρ c (Proc.devRef .tc (Pipeline.arrRef spec0 w)) = (Dgrad.dats (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `Dgrad.A_eq`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Dgrad.dats (V1 m ρ) c).arrAt_in w (h w rfl) _).trans (Dgrad.A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (Dgrad.dats (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (Wgrad.dats (V3 m ρ) c).arrAt w cfg1.N
theorem W4_arr (c : Dev nD) (w : Fin cfg1.W) :
    W4 m ρ c (Proc.devRef .tc (Pipeline.arrRef spec1 w)) = (Wgrad.dats (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `Wgrad.A_eq`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Wgrad.dats (V3 m ρ) c).arrAt_in w (h w rfl) _).trans (Wgrad.A_eq (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (Wgrad.dats (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => Dgrad.dats (V1 m ρ) c
  | ⟨1, _⟩ => fun c => Wgrad.dats (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- No argument array is scoped. -/
theorem argRefs_unscoped : ∀ a ∈ argRefs, ¬ (Proc.devRef .tc a : DevRef τ sig).isScoped := by decide
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dgrad.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Dgrad.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Dgrad.dats (V1 m ρ) c).Φ 0 from rfl]
    have h := Dgrad.hin (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (Dgrad.dats (V1 m ρ) c).Φ (Fin.last _) from rfl]
    have h := Dgrad.hout (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Wgrad.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (Wgrad.A_eq (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Wgrad.dats (V3 m ρ) c).Φ 0 from rfl]
    have h := Wgrad.hin (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (Wgrad.dats (V3 m ρ) c).Φ (Fin.last _) from rfl]
    have h := Wgrad.hout (V3 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, and
    every final state holds every unscoped buffer at the last boundary's contents `W5`, with every semaphore counter zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the argument arrays end as launched and every semaphore counter ends at zero. -/
theorem frame : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    have key : ∀ a ∈ argRefs, r.2.mem ((c.tc : Thread nD τ).loc a) = m ((c.tc : Thread nD τ).loc a) := fun a ha =>
      (h.1 c _ (mem_uc a (argRefs_unscoped a ha))).trans (W5_args m ρ c a ha)
    exact ⟨key _ (by decide), key _ (by decide), key _ (by decide), key _ (by decide), key _ (by decide), key _ (by decide),
      key _ (by decide)⟩, h.2⟩) (run m ρ)

end Cert.KernelIdeal.Whole

end
-- ==== Proof.BitsFrame.lean ====
/- The frame of the kernel at machine floats. The kernel's program and its idealisation are the same text, so the claim about
   the first is, by unfolding both, the claim about the second read at machine floats, which `Whole.frame` proves at any
   float semantics. -/
module

public import proofs.«01_k».proof.Defs
public import proofs.«01_k».proof.Proof.Gen.Kernel
public import proofs.«01_k».proof.Proof.Run

@[expose] public section

set_option maxRecDepth 65536

noncomputable section

namespace Cert.KernelIdeal.Whole

open Idealize.ShloMosaic Idealize.ShloMosaic.TcCoe Idealize.SL.Sem

/-- The frame claim about the idealised program's text, at any float semantics and any contents. -/
def FrameAt (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frameAt (F : FTy → Type) [FloatOps F] : FrameAt F := fun m ρ _ => frame m ρ

/-- The kernel's frame claim is the idealised text's, read at machine floats. -/
theorem quiescent_eq : Cert.quiescent_Kernel = FrameAt Bits := by chain_rfl

theorem quiescent_Kernel : Cert.quiescent_Kernel := quiescent_eq.mpr (frameAt Bits)

end Cert.KernelIdeal.Whole

end
-- ==== Proof.Dgrad.Step.lean ====
/- The region of the `cc0_dgrad` call: what one point of the grid leaves in each buffer, as the body's own pure values
   (`Gen.k0_pay1` … `Gen.k0_pay11`) over the blocks it reads and over what the point before left. -/
module

public import proofs.«01_k».proof.Proof.Dgrad.Frame

public import Idealize.ShloMosaic.Lib.Pipeline.ValueKit
public import Idealize.ShloMosaic.Lib.Pipeline.ReadBack
public import Idealize.ShloMosaic.Lib.WritesUnit

@[expose] public section

-- membership in a rectangle of production extents (`View.cover_of_tiled`): the elaborator's structural look
-- recurses once per coordinate of the long axes
set_option maxRecDepth 16384

noncomputable section

namespace Cert.KernelIdeal.Dgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one number of a one-element block. -/
def sc (x : Vec F S1 .f32) : Elt F .f32 := View.ld x (Rect.unit ![0] ![1] inb_S1_S1_0) (Shape.Idx.first (by decide))

/-- What the point before `t` left (at the first point, what that point itself leaves). -/
abbrev prev (c : Dev nD) (t : Fin cfg0.N) := outsAt0 V c (t.val - 1) (Nat.lt_of_le_of_lt (Nat.sub_le _ _) t.isLt)

/-- The quantised block of point `t`. -/
abbrev codesAt (c : Dev nD) (t : Fin cfg0.N) : FVec F S1024x1024 .fp8e5m2 := k0_pay8 (iblk V c 2 t) (sc (iblk V c 0 t))

/-- The bias gradient's buffer after a point that found `X` there: the point's slice of columns added into, the rest kept. -/
def biasStep (i : grid0.Coords) (x2 : Vec F S1024x1024 .bf16) (X : Vec F S8x14336 .f32) : Vec F S8x14336 .f32 := fun y =>
  if h : ∀ a, k0_off1 i a ≤ (y a).val ∧ (y a).val < k0_off1 i a + S8x1024.size a then
    k0_pay9 x2 (View.ld X (Rect.unit (k0_off1 i) S8x1024.size (k0_off1_inb i))) (Rect.unitLocal (s := S8x14336) (off := k0_off1 i) (size := S8x1024.size) y h)
  else X y

/-- Every point leaves its quantised block in the codes' buffer. -/
theorem codes_at (c : Dev nD) (t : Fin cfg0.N) : (outsAt0 V c t.val t.isLt).2.1 = codesAt V c t := by
  by_cases h0 : t.val % 224 = 0
  · have h1 : t.val % 14 = 0 := by omega
    have h2 : ¬t.val % 14 = 13 := by omega
    rw [outsAt0_A V c t h0 h1 h2]; frame_out; rfl
  by_cases h1 : t.val % 14 = 0
  · have h2 : ¬t.val % 14 = 13 := by omega
    rw [outsAt0_D V c t h0 h1 h2]; frame_out; rfl
  by_cases h2 : t.val % 14 = 13
  · rw [outsAt0_C V c t h0 h1 h2]; frame_out; rfl
  · rw [outsAt0_B V c t h0 h1 h2]; frame_out; rfl

/-- The scratch at the first column block of a row of blocks: zero plus the block's product. -/
theorem acc_reset (c : Dev nD) (t : Fin cfg0.N) (h1 : t.val % 14 = 0) :
    (outsAt0 V c t.val t.isLt).2.2.2.2 = k0_pay2 (codesAt V c t) k0_pay6 (iblk V c 3 t) := by
  have h2 : ¬t.val % 14 = 13 := by omega
  by_cases h0 : t.val % 224 = 0
  · rw [outsAt0_A V c t h0 h1 h2]; frame_out; rfl
  · rw [outsAt0_D V c t h0 h1 h2]; frame_out; rfl

/-- The scratch at the other column blocks: what the point before left plus the block's product. -/
theorem acc_step (c : Dev nD) (t : Fin cfg0.N) (h1 : ¬t.val % 14 = 0) :
    (outsAt0 V c t.val t.isLt).2.2.2.2 = k0_pay2 (codesAt V c t) (prev V c t).2.2.2.2 (iblk V c 3 t) := by
  have h0 : ¬t.val % 224 = 0 := by omega
  by_cases h2 : t.val % 14 = 13
  · rw [outsAt0_C V c t h0 h1 h2]; frame_out; simp only [read_unread_whole]; rfl
  · rw [outsAt0_B V c t h0 h1 h2]; frame_out; simp only [read_unread_whole]; rfl

/-- The output block of the first product, at the last column block: the scratch times the scale, rounded. -/
theorem dx_at (c : Dev nD) (t : Fin cfg0.N) (h2 : t.val % 14 = 13) :
    (outsAt0 V c t.val t.isLt).1 = k0_pay3 (outsAt0 V c t.val t.isLt).2.2.2.2 (sc (iblk V c 1 t)) := by
  have h0 : ¬t.val % 224 = 0 := by omega
  have h1 : ¬t.val % 14 = 0 := by omega
  rw [acc_step V c t h1, outsAt0_C V c t h0 h1 h2]; frame_out; simp only [read_unread_whole]; rfl

/-- The maxima at the first point: against zero. -/
theorem amax_reset (c : Dev nD) (t : Fin cfg0.N) (h0 : t.val % 224 = 0) :
    (outsAt0 V c t.val t.isLt).2.2.2.1 = k0_pay1 (k0_pay10 k0_pay5) (k0_pay11 (iblk V c 2 t)) := by
  have h1 : t.val % 14 = 0 := by omega
  have h2 : ¬t.val % 14 = 13 := by omega
  rw [outsAt0_A V c t h0 h1 h2]; frame_out

/-- The maxima at the other points: against what the point before left. -/
theorem amax_step (c : Dev nD) (t : Fin cfg0.N) (h0 : ¬t.val % 224 = 0) :
    (outsAt0 V c t.val t.isLt).2.2.2.1 = k0_pay1 (k0_pay10 (prev V c t).2.2.2.1) (k0_pay11 (iblk V c 2 t)) := by
  by_cases h1 : t.val % 14 = 0
  · have h2 : ¬t.val % 14 = 13 := by omega
    rw [outsAt0_D V c t h0 h1 h2]; frame_out
  by_cases h2 : t.val % 14 = 13
  · rw [outsAt0_C V c t h0 h1 h2]; frame_out
  · rw [outsAt0_B V c t h0 h1 h2]; frame_out

/-- One slice written over the contents `X` of a whole buffer, read back. -/
theorem bias_aux (v : Memref sig .tc .vmem S8x14336 .f32) (hv : v.IsWhole) (i : grid0.Coords) (x2 : Vec F S1024x1024 .bf16)
    (X : Vec F S8x14336 .f32) :
    View.read (Elt F) v.view (v.view.writes (Elt F) (hv.unread X)
      [⟨Rect.unit (k0_off1 i) S8x1024.size (k0_off1_inb i), k0_pay9 x2 (View.ld X (Rect.unit (k0_off1 i) S8x1024.size (k0_off1_inb i)))⟩])
      = biasStep i x2 X := by
  funext y
  rw [View.read_writes_cons_unit _ _ _ _ _ y rfl]
  unfold biasStep
  split
  · rfl
  · show View.read (Elt F) v.view (hv.unread X) y = X y
    rw [hv.read_unread]

/-- The bias gradient's buffer at the first point: the point's slice added into zero. -/
theorem bias_reset (c : Dev nD) (t : Fin cfg0.N) (h0 : t.val % 224 = 0) :
    (outsAt0 V c t.val t.isLt).2.2.1 = biasStep (grid0.coords t) (iblk V c 2 t) k0_pay4 := by
  have h1 : t.val % 14 = 0 := by omega
  have h2 : ¬t.val % 14 = 13 := by omega
  rw [outsAt0_A V c t h0 h1 h2]; frame_out
  funext y
  rw [← View.read_writes_junk_eq_canon (v := VO0_6), View.read_writes_cons_unit _ _ _ _ _ y rfl, View.read_writes_junk_eq_canon,
    View.canon_cons_unit_lit' _ _ _ (by decide)]
  rfl

/-- The bias gradient's buffer at the other points: the point's slice added into what the point before left. -/
theorem bias_step (c : Dev nD) (t : Fin cfg0.N) (h0 : ¬t.val % 224 = 0) :
    (outsAt0 V c t.val t.isLt).2.2.1 = biasStep (grid0.coords t) (iblk V c 2 t) (prev V c t).2.2.1 := by
  by_cases h1 : t.val % 14 = 0
  · have h2 : ¬t.val % 14 = 13 := by omega
    rw [outsAt0_D V c t h0 h1 h2]; frame_out; exact bias_aux _ _ _ _ _
  by_cases h2 : t.val % 14 = 13
  · rw [outsAt0_C V c t h0 h1 h2]; frame_out; exact bias_aux _ _ _ _ _
  · rw [outsAt0_B V c t h0 h1 h2]; frame_out; exact bias_aux _ _ _ _ _

end Cert.KernelIdeal.Dgrad

end
-- ==== Proof.Dgrad.Value.lean ====
/- The region of the `cc0_dgrad` call over the extended reals: its four result arrays as sums, products and maxima over
   the arrays it starts from. -/
module

public import proofs.«01_k».proof.Proof.Dgrad.Step
public import Idealize.ShloMosaic.Lib.Pointwise

@[expose] public section

set_option maxRecDepth 16384

noncomputable section

namespace Cert.KernelIdeal.Dgrad

open Idealize.ShloMosaic Idealize.ShloMosaic.TcCoe Idealize.SL.Sem
open Cert.KernelIdeal.Gen
open Idealize.ShloMosaic.Pipeline (Dat)

variable (V : (c : Dev nD) → (b : Ref sig .tc) → Buf (Elt Ideal) ((c : Thread nD τ).loc b))

/-- The quantiser on one number: times the reciprocal scale, kept within the largest finite e5m2 values. -/
def qz (d inv : EReal) : EReal := min (Ideal.ofBits .f32 0x47600000#32) (max (Ideal.ofBits .f32 0xC7600000#32) (d * inv))

/-- The windows' block indices at a grid point, by its number. -/
theorem idx : ∀ t : Fin cfg0.N, win0_0.index t = ![0] ∧ win0_1.index t = ![0] ∧ win0_2.index t = ![t.val / 14, t.val % 14]
    ∧ win0_3.index t = ![t.val % 14, 0] ∧ win0_4.index t = ![t.val / 14, 0] ∧ win0_5.index t = ![t.val / 14, t.val % 14]
    ∧ win0_6.index t = ![0, 0] ∧ win0_7.index t = ![0, 0] :=
  (by decide +kernel : ∀ t : Fin grid0.N, _)

/-- The one number of a one-element block, by its index. -/
theorem sc_eq (x : FVec Ideal S1 .f32) : sc (F := Ideal) x = x (ix1 0) := by
  unfold sc
  pointwise

theorem pay8_apply (x2 : FVec Ideal S1024x1024 .bf16) (s : EReal) (j : S1024x1024.Idx) :
    k0_pay8 (F := Ideal) x2 s j = qz (x2 j) s := by
  pointwise [k0_pay8, k0_pay7, qz]

theorem pay2_apply (cd : FVec Ideal S1024x1024 .fp8e5m2) (acc : FVec Ideal S1024x4096 .f32) (w : FVec Ideal S1024x4096 .fp8e4m3)
    (j : S1024x4096.Idx) :
    k0_pay2 (F := Ideal) cd acc w j = acc j + ∑ k : Fin 1024, cd (ix2 (j 0) k) * w (ix2 k (j 1)) := by
  pointwise [k0_pay2]

theorem pay6_apply (j : S1024x4096.Idx) : k0_pay6 (F := Ideal) j = 0 := by
  pointwise [k0_pay6]

theorem pay3_apply (acc : FVec Ideal S1024x4096 .f32) (s : EReal) (j : S1024x4096.Idx) : k0_pay3 (F := Ideal) acc s j = acc j * s := by
  pointwise [k0_pay3]

theorem pay9_apply (x2 : FVec Ideal S1024x1024 .bf16) (X : FVec Ideal S8x1024 .f32) (j : S8x1024.Idx) :
    k0_pay9 (F := Ideal) x2 X j = X j + ∑ g : Fin 128, x2 (ix2 ⟨g.val * 8 + (j 0).val, by have := g.isLt; have := (j 0).isLt; change (j 0).val < 8 at this; omega⟩ (j 1)) := by
  pointwise [k0_pay9, k0_pay7]

theorem pay11_apply (x2 : FVec Ideal S1024x1024 .bf16) (j : S8x1024.Idx) :
    k0_pay11 (F := Ideal) x2 j = Finset.univ.fold max (Ideal.ofBits .f32 0xFF800000#32)
      (fun g : Fin 128 => let d : EReal := x2 (ix2 ⟨g.val * 8 + (j 0).val, by have := g.isLt; have := (j 0).isLt; change (j 0).val < 8 at this; omega⟩ (j 1)); max d (-d)) := by
  pointwise [k0_pay11, k0_pay7]
  rfl

theorem pay1_apply (X Y : FVec Ideal S8x1024 .f32) (j : S8x1024.Idx) :
    k0_pay1 (F := Ideal) (k0_pay10 X) Y j = max (X j) (Y j) := by
  pointwise [k0_pay1, k0_pay10]

/-- The array dY, the reciprocal scale, the output scale and the weights that the call starts from. -/
abbrev Dy (c : Dev nD) : FVec Ideal S16384x14336 .bf16 := V c main_v2
abbrev Inv (c : Dev nD) : EReal := (V c main_v1 : FVec Ideal S1 .f32) (ix1 0)
abbrev Sc (c : Dev nD) : EReal := (V c main_v4 : FVec Ideal S1 .f32) (ix1 0)
abbrev Wt (c : Dev nD) : FVec Ideal S14336x4096 .fp8e4m3 := V c main_arg4

/-- The quantised dY. -/
def Codes (c : Dev nD) : FVec Ideal S16384x14336 .fp8e5m2 := fun i => qz (Dy V c i) (Inv V c)

theorem codesAt_apply (c : Dev nD) (t : Fin cfg0.N) (j : S1024x1024.Idx) :
    codesAt V c t j = Codes V c (ix2 ⟨t.val / 14 * 1024 + (j 0).val, by have := t.isLt; have := (j 0).isLt; change (j 0).val < 1024 at this; change t.val < 224 at *; omega⟩
      ⟨t.val % 14 * 1024 + (j 1).val, by have := (j 1).isLt; change (j 1).val < 1024 at this; omega⟩) := by
  unfold codesAt
  rw [pay8_apply, sc_eq]
  unfold Codes
  refine congrArg₂ qz ?_ ?_
  · blk_ext [iblk, idx t]
  · blk_ext [iblk, idx t]

/-- The codes' array. -/
theorem codes_final (c : Dev nD) : (dats V c).arrAt 5 cfg0.N = Codes V c := by
  refine (dats V c).arrAt_eq_of_covers 5 _ (by decide +kernel) fun t hf y => ?_
  blk_simp
  rw [after0_5, codes_at, codesAt_apply]
  blk_ext [idx t]

/-- The product of the quantised dY with the weights, scaled. -/
def Dx (c : Dev nD) : FVec Ideal S16384x4096 .bf16 := fun i =>
  (∑ k : Fin 14336, Codes V c (ix2 (i 0) k) * Wt V c (ix2 k (i 1))) * Sc V c

/-- The first product's array. -/
theorem dx_final (c : Dev nD) : (dats V c).arrAt 4 cfg0.N = Dx V c := by
  refine (dats V c).arrAt_eq_of_covers 4 _ (by decide +kernel) fun t hf y => ?_
  have ht := (flush0_4 t).mp hf
  blk_simp
  rw [after0_4, dx_at V c t ht, pay3_apply, sc_eq,
    Pipeline.eq_sum_fin_of_reset_step_apply_of_flush (fun n h => (outsAt0 V c n h).2.2.2.2) 14 (fun _ => (0 : EReal)) _
      (fun t h j => by rw [acc_reset V c t h, pay2_apply, pay6_apply]) (fun t h j => by rw [acc_step V c t h, pay2_apply])
      t ht _, zero_add]
  unfold Dx
  refine congrArg₂ (fun a b : EReal => a * b) ?_ ?_
  · refine Fin.sum_mul_add_congr fun s k hl => ?_
    rw [codesAt_apply]
    refine congrArg₂ (fun a b : EReal => a * b) ?_ ?_
    · blk_ext [iblk, idx t, idx ⟨_, Pipeline.run_point_lt_of_flush t ht s⟩]
    · blk_ext [iblk, idx t, idx ⟨_, Pipeline.run_point_lt_of_flush t ht s⟩]
  · blk_ext [iblk, idx t]

end Cert.KernelIdeal.Dgrad

end
-- ==== Proof.Dgrad.Bias.lean ====
/- The region of the `cc0_dgrad` call over the extended reals: the bias gradient's partial sums and the partial maxima. -/
module

public import proofs.«01_k».proof.Proof.Dgrad.Value

@[expose] public section

set_option maxRecDepth 16384

noncomputable section

namespace Cert.KernelIdeal.Dgrad

open Idealize.ShloMosaic Idealize.ShloMosaic.TcCoe Idealize.SL.Sem
open Cert.KernelIdeal.Gen
open Idealize.ShloMosaic.Pipeline (Dat)

variable (V : (c : Dev nD) → (b : Ref sig .tc) → Buf (Elt Ideal) ((c : Thread nD τ).loc b))

theorem coords1 : ∀ t : Fin cfg0.N, ((grid0.coords t) 1).val = t.val % 14 :=
  (by decide +kernel : ∀ t : Fin grid0.N, _)

theorem off_eq (t : Fin cfg0.N) : k0_off1 (grid0.coords t) = ![0, 1024 * (t.val % 14)] := by
  rw [k0_off1_eq, coords1]

theorem pay4_apply (y : S8x14336.Idx) : k0_pay4 (F := Ideal) y = 0 := by
  pointwise [k0_pay4]

theorem pay5_apply (y : S8x1024.Idx) : k0_pay5 (F := Ideal) y = 0 := by
  pointwise [k0_pay5]

/-- One block's share of the partial sums: at a column of the block's slice, every eighth row's entry. -/
def share (t : Fin cfg0.N) (x2 : FVec Ideal S1024x1024 .bf16) (y : S8x14336.Idx) : EReal :=
  if (y 1).val / 1024 = t.val % 14 then
    ∑ g : Fin 128, x2 (ix2 ⟨g.val * 8 + (y 0).val, by have := g.isLt; have := (y 0).isLt; change (y 0).val < 8 at this; omega⟩
      ⟨(y 1).val % 1024, Nat.mod_lt _ (by decide)⟩)
  else 0

/-- A point adds its share to what it found. -/
theorem biasStep_apply (t : Fin cfg0.N) (x2 : FVec Ideal S1024x1024 .bf16) (X : FVec Ideal S8x14336 .f32) (y : S8x14336.Idx) :
    biasStep (F := Ideal) (grid0.coords t) x2 X y = X y + share t x2 y := by
  have hy0 : (y 0).val < 8 := (y 0).isLt
  have hy1 : (y 1).val < 14336 := (y 1).isLt
  have e0 : k0_off1 (grid0.coords t) 0 = 0 := by rw [off_eq]; rfl
  have e1 : k0_off1 (grid0.coords t) 1 = 1024 * (t.val % 14) := by rw [off_eq]; rfl
  unfold biasStep share
  by_cases h : ∀ a, k0_off1 (grid0.coords t) a ≤ (y a).val ∧ (y a).val < k0_off1 (grid0.coords t) a + S8x1024.size a
  · have h1 := h 1
    rw [e1] at h1
    change 1024 * (t.val % 14) ≤ (y 1).val ∧ (y 1).val < 1024 * (t.val % 14) + 1024 at h1
    rw [dif_pos h, if_pos (by omega), pay9_apply]
    have l0 : (Rect.unitLocal (s := S8x14336) (off := k0_off1 (grid0.coords t)) (size := S8x1024.size) y h 0).val = (y 0).val := by
      rw [Rect.unitLocal_val, e0]; omega
    have l1 : (Rect.unitLocal (s := S8x14336) (off := k0_off1 (grid0.coords t)) (size := S8x1024.size) y h 1).val = (y 1).val - 1024 * (t.val % 14) := by
      rw [Rect.unitLocal_val, e1]
    refine congrArg₂ (fun a b : EReal => a + b) ?_ ?_
    · refine View.ld_unit_apply_of (Val := Elt Ideal) (e := .f32) X _ _ (k0_off1_inb (grid0.coords t)) _ y fun a => ?_
      rw [Rect.unitLocal_val]
      have := (h a).1
      omega
    · refine Finset.sum_congr rfl fun g _ => congrArg x2 ?_
      refine (ix2_inj ..).2 ⟨Fin.ext ?_, Fin.ext ?_⟩
      · show g.val * 8 + _ = g.val * 8 + _; rw [l0]
      · show _ = (y 1).val % 1024; refine l1.trans ?_; omega
  · rw [dif_neg h, if_neg ?_, add_zero]
    intro hc
    apply h
    intro a
    match a with
    | ⟨0, _⟩ => exact ⟨by show k0_off1 _ 0 ≤ _; rw [e0]; omega, by show _ < k0_off1 _ 0 + 8; rw [e0]; exact (Nat.zero_add 8).symm ▸ hy0⟩
    | ⟨1, _⟩ => exact ⟨by show k0_off1 _ 1 ≤ (y 1).val; rw [e1]; omega, by show (y 1).val < k0_off1 _ 1 + 1024; rw [e1]; omega⟩

/-- The partial sums: row `r` of eight, column `j`, the sum over the rows `8 q + r`. -/
def Bias (c : Dev nD) : FVec Ideal S8x14336 .f32 := fun y =>
  ∑ a : Fin 16, ∑ g : Fin 128, Dy V c (ix2 ⟨a.val * 1024 + (g.val * 8 + (y 0).val),
    by have := a.isLt; have := g.isLt; have := (y 0).isLt; change (y 0).val < 8 at this; omega⟩ (y 1))

/-- What the last point leaves of the partial sums. -/
theorem bias_last (c : Dev nD) (t : Fin cfg0.N) (ht : t.val % 224 = 223) (y : S8x14336.Idx) :
    (outsAt0 V c t.val t.isLt).2.2.1 y = Bias V c y := by
  rw [Pipeline.eq_sum_fin_of_reset_step_apply_of_flush (fun n h => (outsAt0 V c n h).2.2.1) 224 (fun _ => (0 : EReal)) _
      (fun t h j => by rw [bias_reset V c t h, biasStep_apply, pay4_apply]) (fun t h j => by rw [bias_step V c t h, biasStep_apply])
      t ht _, zero_add]
  have hy1 : (y 1).val < 14336 := (y 1).isLt
  have htN : t.val < 224 := t.isLt
  unfold Bias
  refine (Fin.sum_divmod_congr (A := 16) (S := 14) (f := fun a s => if (y 1).val / 1024 = s.val then
    ∑ g : Fin 128, Dy V c (ix2 ⟨a.val * 1024 + (g.val * 8 + (y 0).val),
      by have := a.isLt; have := g.isLt; have := (y 0).isLt; change (y 0).val < 8 at this; omega⟩ (y 1)) else 0) fun s ha hs => ?_).trans ?_
  · have hs' : s.val < 224 := s.isLt
    by_cases hc : (y 1).val / 1024 = s.val % 14
    · refine (if_pos (show (y 1).val / 1024 = (224 * (t.val / 224) + s.val) % 14 by omega)).trans (Eq.trans ?_ (if_pos hc).symm)
      refine Finset.sum_congr rfl fun g _ => ?_
      blk_ext [iblk, idx ⟨_, Pipeline.run_point_lt_of_flush t ht s⟩]
    · exact (if_neg (show ¬(y 1).val / 1024 = (224 * (t.val / 224) + s.val) % 14 by omega)).trans (if_neg hc).symm
  · refine Finset.sum_congr rfl fun a _ => ?_
    refine (Finset.sum_eq_single (⟨(y 1).val / 1024, by omega⟩ : Fin 14) (fun s _ hs => if_neg fun h => hs (Fin.ext h.symm))
      fun h => absurd (Finset.mem_univ _) h).trans (if_pos rfl)

/-- The partial sums' array. -/
theorem bias_final (c : Dev nD) : (dats V c).arrAt 6 cfg0.N = Bias V c := by
  refine (dats V c).arrAt_eq_of_covers 6 _ (by decide +kernel) fun t hf y => ?_
  have ht := (flush0_6 t).mp hf
  blk_simp
  rw [after0_6, bias_last V c t ht]
  blk_ext [idx t]

/-- A bound of one block's maxima at a lane: the fold's start, and every eighth row's absolute value. -/
theorem pay11_le (x2 : FVec Ideal S1024x1024 .bf16) (j : S8x1024.Idx) (B : EReal) :
    k0_pay11 (F := Ideal) x2 j ≤ B ↔ Ideal.ofBits .f32 0xFF800000#32 ≤ B ∧ ∀ g : Fin 128,
      max (α := EReal) (x2 (ix2 ⟨g.val * 8 + (j 0).val, by have := g.isLt; have := (j 0).isLt; change (j 0).val < 8 at this; omega⟩ (j 1)))
        (-(show EReal from x2 (ix2 ⟨g.val * 8 + (j 0).val, by have := g.isLt; have := (j 0).isLt; change (j 0).val < 8 at this; omega⟩ (j 1)))) ≤ B := by
  rw [pay11_apply]
  refine (Finset.fold_max_le B).trans ?_
  simp only [Finset.mem_univ, forall_const]

/-- The absolute value of dY at a row and a column. -/
def AbsDy (c : Dev nD) (r : Fin 16384) (j : Fin 14336) : EReal :=
  max (α := EReal) (Dy V c (ix2 r j)) (-(show EReal from Dy V c (ix2 r j)))

/-- The row and the column that lane `y` of point `t` reads in its `g`-th step. -/
def rowOf (t : Fin cfg0.N) (g : Fin 128) (y : S8x1024.Idx) : Fin 16384 :=
  ⟨t.val / 14 * 1024 + (g.val * 8 + (y 0).val), by have := t.isLt; have := g.isLt; have := (y 0).isLt; change (y 0).val < 8 at this; change t.val < 224 at *; omega⟩
def colOf (t : Fin cfg0.N) (y : S8x1024.Idx) : Fin 14336 :=
  ⟨t.val % 14 * 1024 + (y 1).val, by have := (y 1).isLt; change (y 1).val < 1024 at this; omega⟩

/-- A bound of one block's maxima, over the rows of dY. -/
theorem block_le (c : Dev nD) (t : Fin cfg0.N) (y : S8x1024.Idx) (B : EReal) :
    k0_pay11 (F := Ideal) (iblk V c 2 t) y ≤ B ↔ Ideal.ofBits .f32 0xFF800000#32 ≤ B ∧ ∀ g : Fin 128, AbsDy V c (rowOf t g y) (colOf t y) ≤ B := by
  refine (pay11_le (iblk V c 2 t) y B).trans (and_congr_right' (forall_congr' fun g => ?_))
  have e : (iblk V c 2 t : FVec Ideal S1024x1024 .bf16) (ix2 ⟨g.val * 8 + (y 0).val, by have := g.isLt; have := (y 0).isLt; change (y 0).val < 8 at this; omega⟩ (y 1))
      = Dy V c (ix2 (rowOf t g y) (colOf t y)) := by
    unfold rowOf colOf
    blk_ext [iblk, idx t]
  rw [e]
  rfl

/-- A bound of what point `n` leaves of the maxima at a lane: zero, the folds' start, and the absolute values read so far. -/
theorem amax_le (c : Dev nD) (B : EReal) (y : S8x1024.Idx) : ∀ (n : ℕ) (hn : n < cfg0.N),
    (show EReal from (outsAt0 V c n hn).2.2.2.1 y) ≤ B ↔ (0 ≤ B ∧ Ideal.ofBits .f32 0xFF800000#32 ≤ B ∧
      ∀ (t : Fin cfg0.N) (g : Fin 128), t.val ≤ n → AbsDy V c (rowOf t g y) (colOf t y) ≤ B)
  | 0, hn => by
    have e : (outsAt0 V c 0 hn).2.2.2.1 y = max (α := EReal) 0 (k0_pay11 (F := Ideal) (iblk V c 2 ⟨0, hn⟩) y) := by
      rw [amax_reset V c ⟨0, hn⟩ rfl, pay1_apply, pay5_apply]
    rw [e, max_le_iff, block_le]
    refine and_congr_right' (and_congr_right' ⟨fun h t g ht => ?_, fun h g => h ⟨0, hn⟩ g le_rfl⟩)
    obtain rfl : t = ⟨0, hn⟩ := Fin.ext (Nat.le_zero.mp ht)
    exact h g
  | n + 1, hn => by
    have hN : n + 1 < 224 := hn
    have e : (outsAt0 V c (n + 1) hn).2.2.2.1 y
        = max (α := EReal) ((outsAt0 V c n (Nat.lt_of_succ_lt hn)).2.2.2.1 y) (k0_pay11 (F := Ideal) (iblk V c 2 ⟨n + 1, hn⟩) y) := by
      rw [amax_step V c ⟨n + 1, hn⟩ (show ¬(n + 1) % 224 = 0 by omega), pay1_apply]; rfl
    rw [e, max_le_iff, block_le, amax_le c B y n (Nat.lt_of_succ_lt hn)]
    constructor
    · rintro ⟨⟨h0, hm, h⟩, _, h'⟩
      refine ⟨h0, hm, fun t g ht => ?_⟩
      rcases Nat.lt_or_ge n t.val with hlt | hge
      · obtain rfl : t = ⟨n + 1, hn⟩ := Fin.ext (Nat.le_antisymm ht hlt)
        exact h' g
      · exact h t g hge
    · rintro ⟨h0, hm, h⟩
      exact ⟨⟨h0, hm, fun t g ht => h t g (Nat.le_succ_of_le ht)⟩, hm, fun g => h ⟨n + 1, hn⟩ g le_rfl⟩

/-- The partial maxima: at a lane, zero, the folds' start and the absolute values that the lane reads. -/
def Amax (c : Dev nD) : FVec Ideal S8x1024 .f32 := fun y =>
  max (α := EReal) 0 (max (Ideal.ofBits .f32 0xFF800000#32) (⨆ (t : Fin cfg0.N) (g : Fin 128), AbsDy V c (rowOf t g y) (colOf t y)))

theorem Amax_le (c : Dev nD) (B : EReal) (y : S8x1024.Idx) : (show EReal from Amax V c y) ≤ B ↔
    (0 ≤ B ∧ Ideal.ofBits .f32 0xFF800000#32 ≤ B ∧ ∀ (t : Fin cfg0.N) (g : Fin 128), AbsDy V c (rowOf t g y) (colOf t y) ≤ B) := by
  refine max_le_iff.trans (and_congr_right' (max_le_iff.trans (and_congr_right' ?_)))
  simp only [iSup_le_iff]

/-- What the last point leaves of the maxima. -/
theorem amax_last (c : Dev nD) (t : Fin cfg0.N) (ht : t.val % 224 = 223) (y : S8x1024.Idx) :
    (outsAt0 V c t.val t.isLt).2.2.2.1 y = Amax V c y := by
  refine eq_of_forall_ge_iff (α := EReal) fun B => (amax_le V c B y t.val t.isLt).trans (Iff.trans ?_ (Amax_le V c B y).symm)
  refine and_congr_right' (and_congr_right' ⟨fun h s g => h s g ?_, fun h s g _ => h s g⟩)
  have hs : s.val < 224 := s.isLt
  have htN : t.val < 224 := t.isLt
  omega

/-- The partial maxima's array. -/
theorem amax_final (c : Dev nD) : (dats V c).arrAt 7 cfg0.N = Amax V c := by
  refine (dats V c).arrAt_eq_of_covers 7 _ (by decide +kernel) fun t hf y => ?_
  have ht := (flush0_7 t).mp hf
  blk_simp
  rw [after0_7, amax_last V c t ht]
  blk_ext [idx t]

/-- The bounds of all the partial maxima: zero, the folds' start, and the absolute values of dY. -/
theorem amax_all_le (c : Dev nD) (B : EReal) : (∀ y : S8x1024.Idx, (show EReal from Amax V c y) ≤ B) ↔
    (0 ≤ B ∧ Ideal.ofBits .f32 0xFF800000#32 ≤ B ∧ ∀ (r : Fin 16384) (j : Fin 14336), AbsDy V c r j ≤ B) := by
  constructor
  · intro h
    have h1 := (Amax_le V c B (ix2 0 0)).mp (h _)
    refine ⟨h1.1, h1.2.1, fun r j => ?_⟩
    have hr := r.isLt
    have hj := j.isLt
    have hq : r.val / 1024 * 14 + j.val / 1024 < 224 := by omega
    have := ((Amax_le V c B (ix2 ⟨r.val % 8, by omega⟩ ⟨j.val % 1024, by omega⟩)).mp (h _)).2.2
      (⟨r.val / 1024 * 14 + j.val / 1024, hq⟩ : Fin 224) ⟨r.val % 1024 / 8, by omega⟩
    refine le_of_eq_of_le (congrArg₂ (AbsDy V c) (Fin.ext ?_) (Fin.ext ?_)) this
    · show r.val = (r.val / 1024 * 14 + j.val / 1024) / 14 * 1024 + (r.val % 1024 / 8 * 8 + r.val % 8)
      omega
    · show j.val = (r.val / 1024 * 14 + j.val / 1024) % 14 * 1024 + j.val % 1024
      omega
  · rintro ⟨h0, hm, h⟩ y
    exact (Amax_le V c B y).mpr ⟨h0, hm, fun t g => h _ _⟩

end Cert.KernelIdeal.Dgrad

end
-- ==== Proof.Wgrad.Step.lean ====
/- The region of the `cc1_wgrad` call: what one point of the grid leaves in each buffer, as the body's own pure values
   (`Gen.k1_pay1` … `Gen.k1_pay3`) over the blocks it reads and over what the point before left. -/
module

public import proofs.«01_k».proof.Proof.Wgrad.Frame

public import Idealize.ShloMosaic.Lib.Pipeline.ValueKit
public import Idealize.ShloMosaic.Lib.Pipeline.ReadBack
public import Idealize.ShloMosaic.Lib.WritesUnit

@[expose] public section

-- membership in a rectangle of production extents (`View.cover_of_tiled`): the elaborator's structural look
-- recurses once per coordinate of the long axes
set_option maxRecDepth 16384

noncomputable section

namespace Cert.KernelIdeal.Wgrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one number of a one-element block. -/
def sc (x : Vec F S1 .f32) : Elt F .f32 := View.ld x (Rect.unit ![0] ![1] inb_S1_S1_0) (Shape.Idx.first (by decide))

/-- What the point before `t` left (at the first point, what that point itself leaves). -/
abbrev prev (c : Dev nD) (t : Fin cfg1.N) := outsAt0 V c (t.val - 1) (Nat.lt_of_le_of_lt (Nat.sub_le _ _) t.isLt)

/-- The scratch at the first row block of a run: zero plus the block's product. -/
theorem acc_reset (c : Dev nD) (t : Fin cfg1.N) (h0 : t.val % 16 = 0) :
    (outsAt0 V c t.val t.isLt).2 = k1_pay2 k1_pay1 (iblk V c 1 t) (iblk V c 2 t) := by
  have h1 : ¬t.val % 16 = 15 := by omega
  rw [outsAt0_A V c t h0 h1]; frame_out

/-- The scratch at the other row blocks: what the point before left plus the block's product. -/
theorem acc_step (c : Dev nD) (t : Fin cfg1.N) (h0 : ¬t.val % 16 = 0) :
    (outsAt0 V c t.val t.isLt).2 = k1_pay2 (prev V c t).2 (iblk V c 1 t) (iblk V c 2 t) := by
  by_cases h1 : t.val % 16 = 15
  · rw [outsAt0_C V c t h0 h1]; frame_out; simp only [read_unread_whole]
  · rw [outsAt0_B V c t h0 h1]; frame_out; simp only [read_unread_whole]

/-- The output block of the second product, at the last row block: the gradient held so far plus the scratch times the scale. -/
theorem out_at (c : Dev nD) (t : Fin cfg1.N) (h1 : t.val % 16 = 15) :
    (outsAt0 V c t.val t.isLt).1 = k1_pay3 (iblk V c 3 t) (outsAt0 V c t.val t.isLt).2 (sc (iblk V c 0 t)) := by
  have h0 : ¬t.val % 16 = 0 := by omega
  rw [acc_step V c t h0, outsAt0_C V c t h0 h1]; frame_out; simp only [read_unread_whole]; rfl

end Cert.KernelIdeal.Wgrad

end
-- ==== Proof.Wgrad.Value.lean ====
/- The region of the `cc1_wgrad` call over the extended reals: its result array as a sum of products over the arrays it
   starts from. -/
module

public import proofs.«01_k».proof.Proof.Wgrad.Step
public import Idealize.ShloMosaic.Lib.Pointwise

@[expose] public section

set_option maxRecDepth 16384

noncomputable section

namespace Cert.KernelIdeal.Wgrad

open Idealize.ShloMosaic Idealize.ShloMosaic.TcCoe Idealize.SL.Sem
open Cert.KernelIdeal.Gen
open Idealize.ShloMosaic.Pipeline (Dat)

variable (V : (c : Dev nD) → (b : Ref sig .tc) → Buf (Elt Ideal) ((c : Thread nD τ).loc b))

/-- The windows' block indices at a grid point, by its number. -/
theorem idx : ∀ t : Fin cfg1.N, win1_0.index t = ![0] ∧ win1_1.index t = ![t.val % 16, t.val / 32] ∧ win1_2.index t = ![t.val % 16, t.val / 16 % 2]
    ∧ win1_3.index t = ![t.val / 32, t.val / 16 % 2] ∧ win1_4.index t = ![t.val / 32, t.val / 16 % 2] :=
  (by decide +kernel : ∀ t : Fin grid1.N, _)

theorem sc_eq (x : FVec Ideal S1 .f32) : sc (F := Ideal) x = x (ix1 0) := by
  unfold sc
  pointwise

theorem pay1_apply (j : S1024x2048.Idx) : k1_pay1 (F := Ideal) j = 0 := by
  pointwise [k1_pay1]

theorem pay2_apply (acc : FVec Ideal S1024x2048 .f32) (cd : FVec Ideal S1024x1024 .fp8e5m2) (x : FVec Ideal S1024x2048 .fp8e4m3)
    (j : S1024x2048.Idx) :
    k1_pay2 (F := Ideal) acc cd x j = acc j + ∑ k : Fin 1024, cd (ix2 k (j 0)) * x (ix2 k (j 1)) := by
  pointwise [k1_pay2]

theorem pay3_apply (mg acc : FVec Ideal S1024x2048 .f32) (s : EReal) (j : S1024x2048.Idx) :
    k1_pay3 (F := Ideal) mg acc s j = mg j + acc j * s := by
  pointwise [k1_pay3]

/-- The output scale, the codes, the activations and the gradient held so far that the call starts from. -/
abbrev Sc (c : Dev nD) : EReal := (V c main_v8 : FVec Ideal S1 .f32) (ix1 0)
abbrev Cd (c : Dev nD) : FVec Ideal S16384x14336 .fp8e5m2 := V c main_v5_1
abbrev Xs (c : Dev nD) : FVec Ideal S16384x4096 .fp8e4m3 := V c main_v6
abbrev Mg (c : Dev nD) : FVec Ideal S14336x4096 .f32 := V c main_arg6

/-- The gradient held so far plus the scaled product of the codes with the activations over the rows. -/
def Dw (c : Dev nD) : FVec Ideal S14336x4096 .f32 := fun i =>
  Mg V c i + (∑ r : Fin 16384, Cd V c (ix2 r (i 0)) * Xs V c (ix2 r (i 1))) * Sc V c

/-- The second product's array. -/
theorem dw_final (c : Dev nD) : (dats V c).arrAt 4 cfg1.N = Dw V c := by
  refine (dats V c).arrAt_eq_of_covers 4 _ (by decide +kernel) fun t hf y => ?_
  have ht := (flush1_4 t).mp hf
  blk_simp
  rw [after0_4, out_at V c t ht, pay3_apply, sc_eq,
    Pipeline.eq_sum_fin_of_reset_step_apply_of_flush (fun n h => (outsAt0 V c n h).2) 16 (fun _ => (0 : EReal)) _
      (fun t h j => by rw [acc_reset V c t h, pay2_apply, pay1_apply]) (fun t h j => by rw [acc_step V c t h, pay2_apply])
      t ht _, zero_add]
  unfold Dw
  refine congrArg₂ (fun a b : EReal => a + b) ?_ (congrArg₂ (fun a b : EReal => a * b) ?_ ?_)
  · blk_ext [iblk, idx t]
  · refine Fin.sum_mul_add_congr fun s k hl => ?_
    refine congrArg₂ (fun a b : EReal => a * b) ?_ ?_
    · blk_ext [iblk, idx t, idx ⟨_, Pipeline.run_point_lt_of_flush t ht s⟩]
    · blk_ext [iblk, idx t, idx ⟨_, Pipeline.run_point_lt_of_flush t ht s⟩]
  · blk_ext [iblk, idx t]

end Cert.KernelIdeal.Wgrad

end
-- ==== Proof.RunValue.lean ====
/- The whole kernel's run over the extended reals: what each region starts from, over the arguments, and what the run leaves
   in the five results. -/
module

public import proofs.«01_k».proof.Proof.Run
public import proofs.«01_k».proof.Proof.Dgrad.Bias
public import proofs.«01_k».proof.Proof.Wgrad.Value
public import Idealize.ShloMosaic.Lib.Claim

@[expose] public section

set_option maxRecDepth 16384

noncomputable section

namespace Cert.KernelIdeal.Whole

open Idealize.ShloMosaic Idealize.ShloMosaic.TcCoe Idealize.SL.Sem
open Cert.KernelIdeal.Gen

variable (m : (ℓ : Loc nD τ sig) → Buf (Elt Ideal) ℓ) (ρ : Dev nD → PrngReg)

/-- An argument array as launched. -/
abbrev arg (c : Dev nD) (a : Ref sig .tc) : Buf (Elt Ideal) ((c : Thread nD τ).loc a) := m ((c : Thread nD τ).loc a)

/-- The one number of a scalar argument. -/
abbrev num (X : FVec Ideal S_ .f32) : EReal := X ix0

/-! ## What the first region starts from -/

theorem Dy_eq (c : Dev nD) : Dgrad.Dy (V1 m ρ) c = shapeCast S16384x14336 (arg m c main_arg0) shapeCasts_S8x2048x14336_S16384x14336 := by
  show StableHlo.after hostOps0 _ _ = _
  simp only [StableHlo.after_cons, StableHlo.after_nil]
  after_results_steps
  rfl

theorem Inv_eq (c : Dev nD) : Dgrad.Inv (V1 m ρ) c = Ideal.div 1 (num (arg m c main_arg1)) := by
  have h : (V1 m ρ c main_v1 : FVec Ideal S1 .f32)
      = shapeCast S1 (Host.divf (constant S_ .f32 0x3F800000#32 : FVec Ideal S_ .f32) (arg m c main_arg1)) shapeCasts_S_S1 := by
    show StableHlo.after hostOps0 _ _ = _
    simp only [StableHlo.after_cons, StableHlo.after_nil]
    after_results_steps
    rfl
  show (V1 m ρ c main_v1 : FVec Ideal S1 .f32) (ix1 0) = _
  rw [h]
  pointwise

theorem Sc_eq (c : Dev nD) : Dgrad.Sc (V1 m ρ) c
    = num (arg m c main_arg1) * num (arg m c main_arg5) := by
  have h : (V1 m ρ c main_v4 : FVec Ideal S1 .f32)
      = shapeCast S1 ((mulf : FVec Ideal S_ .f32 → FVec Ideal S_ .f32 → FVec Ideal S_ .f32) (arg m c main_arg1) (arg m c main_arg5)) shapeCasts_S_S1 := by
    show StableHlo.after hostOps0 _ _ = _
    simp only [StableHlo.after_cons, StableHlo.after_nil]
    after_results_steps
    rfl
  show (V1 m ρ c main_v4 : FVec Ideal S1 .f32) (ix1 0) = _
  rw [h]
  pointwise

theorem Wt_eq (c : Dev nD) : Dgrad.Wt (V1 m ρ) c = arg m c main_arg4 := W1_args m ρ c main_arg4 (by decide)

/-! ## What the second region starts from -/

theorem Cd_eq (c : Dev nD) : Wgrad.Cd (V3 m ρ) c = Dgrad.Codes (V1 m ρ) c :=
  (W3_of m ρ c main_v5_1 (by decide)).trans ((W2_arr m ρ c 5).trans (Dgrad.codes_final (V1 m ρ) c))

theorem Xs_eq (c : Dev nD) : Wgrad.Xs (V3 m ρ) c = shapeCast S16384x4096 (arg m c main_arg2) shapeCasts_S8x2048x4096_S16384x4096 := by
  show StableHlo.after hostOps1 _ _ = _
  simp only [StableHlo.after_cons, StableHlo.after_nil]
  after_results_steps
  rw [W2_args m ρ c main_arg2 (by decide)]
  rfl

theorem Mg_eq (c : Dev nD) : Wgrad.Mg (V3 m ρ) c = arg m c main_arg6 := W3_args m ρ c main_arg6 (by decide)

theorem Sc'_eq (c : Dev nD) : Wgrad.Sc (V3 m ρ) c
    = num (arg m c main_arg1) * num (arg m c main_arg3) := by
  have h : (V3 m ρ c main_v8 : FVec Ideal S1 .f32)
      = shapeCast S1 ((mulf : FVec Ideal S_ .f32 → FVec Ideal S_ .f32 → FVec Ideal S_ .f32) (arg m c main_arg1) (arg m c main_arg3)) shapeCasts_S_S1 := by
    show StableHlo.after hostOps1 _ _ = _
    simp only [StableHlo.after_cons, StableHlo.after_nil]
    after_results_steps
    rw [W2_args m ρ c main_arg1 (by decide), W2_args m ρ c main_arg3 (by decide)]
    rfl
  show (V3 m ρ c main_v8 : FVec Ideal S1 .f32) (ix1 0) = _
  rw [h]
  pointwise

/-! ## What the run leaves -/

/-- The result of the first region that no later line writes, as the last host stretch finds it. -/
theorem W4_v5_0 (c : Dev nD) : W4 m ρ c (Proc.devRef .tc main_v5_0) = Dgrad.Dx (V1 m ρ) c :=
  (W4_of m ρ c main_v5_0 (by decide)).trans ((W3_of m ρ c main_v5_0 (by decide)).trans ((W2_arr m ρ c 4).trans (Dgrad.dx_final (V1 m ρ) c)))
theorem W4_v5_1 (c : Dev nD) : W4 m ρ c (Proc.devRef .tc main_v5_1) = Dgrad.Codes (V1 m ρ) c :=
  (W4_of m ρ c main_v5_1 (by decide)).trans (Cd_eq m ρ c)
theorem W4_v5_2 (c : Dev nD) : W4 m ρ c (Proc.devRef .tc main_v5_2) = Dgrad.Bias (V1 m ρ) c :=
  (W4_of m ρ c main_v5_2 (by decide)).trans ((W3_of m ρ c main_v5_2 (by decide)).trans ((W2_arr m ρ c 6).trans (Dgrad.bias_final (V1 m ρ) c)))
theorem W4_v5_3 (c : Dev nD) : W4 m ρ c (Proc.devRef .tc main_v5_3) = Dgrad.Amax (V1 m ρ) c :=
  (W4_of m ρ c main_v5_3 (by decide)).trans ((W3_of m ρ c main_v5_3 (by decide)).trans ((W2_arr m ρ c 7).trans (Dgrad.amax_final (V1 m ρ) c)))

/-- The five results. -/
def R0 (c : Dev nD) : FVec Ideal S8x2048x4096 .bf16 := shapeCast S8x2048x4096 (Dgrad.Dx (V1 m ρ) c) shapeCasts_S16384x4096_S8x2048x4096
def R1 (c : Dev nD) : FVec Ideal S14336x4096 .f32 := Wgrad.Dw (V3 m ρ) c
def R2 (c : Dev nD) : FVec Ideal S14336 .f32 :=
  Host.reduceAdd (Dgrad.Bias (V1 m ρ) c) (constant S_ .f32 0x00000000#32 : FVec Ideal S_ .f32) reducesTo_S8x14336_S14336_d0 h_S_
def R3 (c : Dev nD) : FVec Ideal S_ .f32 :=
  Host.reduce FloatOps.maximumf (Dgrad.Amax (V1 m ρ) c) (constant S_ .f32 0xFF800000#32 : FVec Ideal S_ .f32) reducesTo_S8x1024_S_d0_1 h_S_
def R4 (c : Dev nD) : FVec Ideal S8x2048x14336 .fp8e5m2 := shapeCast S8x2048x14336 (Dgrad.Codes (V1 m ρ) c) shapeCasts_S16384x14336_S8x2048x14336

theorem W5_v10 (c : Dev nD) : W5 m ρ c (Proc.devRef .tc main_v10) = R0 m ρ c := by
  show StableHlo.after hostOps2 _ _ = _
  simp only [StableHlo.after_cons, StableHlo.after_nil]
  after_results_steps
  rw [W4_v5_0]
  rfl
theorem W5_v9 (c : Dev nD) : W5 m ρ c (Proc.devRef .tc main_v9) = R1 m ρ c :=
  (W5_of m ρ c main_v9 (by decide)).trans ((W4_arr m ρ c 4).trans (Wgrad.dw_final (V3 m ρ) c))
theorem W5_v11 (c : Dev nD) : W5 m ρ c (Proc.devRef .tc main_v11) = R2 m ρ c := by
  show StableHlo.after hostOps2 _ _ = _
  simp only [StableHlo.after_cons, StableHlo.after_nil]
  after_results_steps
  rw [W4_v5_2]
  rfl
theorem W5_v12 (c : Dev nD) : W5 m ρ c (Proc.devRef .tc main_v12) = R3 m ρ c := by
  show StableHlo.after hostOps2 _ _ = _
  simp only [StableHlo.after_cons, StableHlo.after_nil]
  after_results_steps
  rw [W4_v5_3]
  rfl
theorem W5_v13 (c : Dev nD) : W5 m ρ c (Proc.devRef .tc main_v13) = R4 m ρ c := by
  show StableHlo.after hostOps2 _ _ = _
  simp only [StableHlo.after_cons, StableHlo.after_nil]
  after_results_steps
  rw [W4_v5_1]
  rfl

/-- The run: the five results, named. -/
theorem run_value : θ_run defs (onTc (τ := τ) (main (F := Ideal))) ⟨m, fun _ => 0, ρ⟩ (fun r => ∀ c : Dev nD,
      r.2.mem ((c.tc : Thread nD τ).loc main_v10) = R0 m ρ c
      ∧ r.2.mem ((c.tc : Thread nD τ).loc main_v9) = R1 m ρ c
      ∧ r.2.mem ((c.tc : Thread nD τ).loc main_v11) = R2 m ρ c
      ∧ r.2.mem ((c.tc : Thread nD τ).loc main_v12) = R3 m ρ c
      ∧ r.2.mem ((c.tc : Thread nD τ).loc main_v13) = R4 m ρ c) :=
  (θ_run defs _ _).mono (fun _ h c => ⟨(h.1 c _ (mem_uc main_v10 (by decide))).trans (W5_v10 m ρ c),
    (h.1 c _ (mem_uc main_v9 (by decide))).trans (W5_v9 m ρ c),
    (h.1 c _ (mem_uc main_v11 (by decide))).trans (W5_v11 m ρ c),
    (h.1 c _ (mem_uc main_v12 (by decide))).trans (W5_v12 m ρ c),
    (h.1 c _ (mem_uc main_v13 (by decide))).trans (W5_v13 m ρ c)⟩) (run m ρ)

/-! ## The results that the last host stretch reduces, at an index -/

theorem R2_apply (c : Dev nD) (i : S14336.Idx) : R2 m ρ c i = ∑ x : Fin 8, Dgrad.Bias (V1 m ρ) c (ix2 x (i 0)) := by
  unfold R2
  pointwise

theorem R3_apply (c : Dev nD) (i : S_.Idx) : R3 m ρ c i
    = Finset.univ.fold max (Ideal.ofBits .f32 0xFF800000#32) (fun k : Fin 8 × Fin 1024 => (show EReal from Dgrad.Amax (V1 m ρ) c (ix2 k.1 k.2))) := by
  unfold R3
  pointwise

end Cert.KernelIdeal.Whole

end
-- ==== Proof.RefValue.lean ====
/- The reference's run over the extended reals: what its one call leaves in its five result arrays, and what the host
   reshapes after it make of them. -/
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal.Gen
open Idealize.ShloMosaic.Pipeline (Dat)

variable (m : (ℓ : Loc nD τ sig) → Buf (Elt Ideal) ℓ) (ρ : Dev nD → PrngReg)

/-- The one point's block indices. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

/-- The arrays the call starts from. -/
abbrev Dy (c : Dev nD) : FVec Ideal S16384x14336 .bf16 := V m c main_v0
abbrev Ds (c : Dev nD) : FVec Ideal S1x1 .f32 := V m c main_v1
abbrev Xs (c : Dev nD) : FVec Ideal S16384x4096 .fp8e4m3 := V m c main_v2
abbrev Xc (c : Dev nD) : FVec Ideal S1x1 .f32 := V m c main_v3
abbrev Wt (c : Dev nD) : FVec Ideal S14336x4096 .fp8e4m3 := V m c main_arg4
abbrev Wc (c : Dev nD) : FVec Ideal S1x1 .f32 := V m c main_v4
abbrev Mg (c : Dev nD) : FVec Ideal S14336x4096 .f32 := V m c main_arg6

theorem blk0 (c : Dev nD) (t : Fin cfg0.N) : iblk m c 0 t = Dy m c := by
  funext y; blk_ext [iblk, idx t]
theorem blk1 (c : Dev nD) (t : Fin cfg0.N) : iblk m c 1 t = Ds m c := by
  funext y; blk_ext [iblk, idx t]
theorem blk2 (c : Dev nD) (t : Fin cfg0.N) : iblk m c 2 t = Xs m c := by
  funext y; blk_ext [iblk, idx t]
theorem blk3 (c : Dev nD) (t : Fin cfg0.N) : iblk m c 3 t = Xc m c := by
  funext y; blk_ext [iblk, idx t]
theorem blk4 (c : Dev nD) (t : Fin cfg0.N) : iblk m c 4 t = Wt m c := by
  funext y; blk_ext [iblk, idx t]
theorem blk5 (c : Dev nD) (t : Fin cfg0.N) : iblk m c 5 t = Wc m c := by
  funext y; blk_ext [iblk, idx t]
theorem blk6 (c : Dev nD) (t : Fin cfg0.N) : iblk m c 6 t = Mg m c := by
  funext y; blk_ext [iblk, idx t]

/-- The five results of the call. -/
def Dx (c : Dev nD) : FVec Ideal S16384x4096 .bf16 := k0_pay8 (Dy m c) (Ds m c) (Wt m c) (Wc m c)
def Dw (c : Dev nD) : FVec Ideal S14336x4096 .f32 := k0_pay1 (k0_pay3 (Ds m c)) (k0_pay6 (Dy m c) (Ds m c)) (Xs m c) (Mg m c) (Xc m c)
def Bias (c : Dev nD) : FVec Ideal S1x14336 .f32 := k0_pay7 (Dy m c)
def Amax (c : Dev nD) : FVec Ideal S1x1 .f32 := k0_pay4 (Dy m c)
def Codes (c : Dev nD) : FVec Ideal S16384x14336 .fp8e5m2 := k0_pay5 (Dy m c) (Ds m c)

theorem final7 (c : Dev nD) : (dats m 0 c).arrAt 7 cfg0.N = Dx m c := by
  refine (dats m 0 c).arrAt_eq_of_after_last 7 t0_0 (by decide +kernel) _ fun j => ?_
  blk_simp
  rw [after0_7]; frame_out
  rw [blk0, blk1, blk4, blk5]
  refine congrArg (Dx m c) ?_
  blk_ext [idx t0_0]

theorem final8 (c : Dev nD) : (dats m 0 c).arrAt 8 cfg0.N = Dw m c := by
  refine (dats m 0 c).arrAt_eq_of_after_last 8 t0_0 (by decide +kernel) _ fun j => ?_
  blk_simp
  rw [after0_8]; frame_out
  rw [blk0, blk1, blk2, blk3, blk6]
  refine congrArg (Dw m c) ?_
  blk_ext [idx t0_0]

theorem final9 (c : Dev nD) : (dats m 0 c).arrAt 9 cfg0.N = Bias m c := by
  refine (dats m 0 c).arrAt_eq_of_after_last 9 t0_0 (by decide +kernel) _ fun j => ?_
  blk_simp
  rw [after0_9]; frame_out
  rw [blk0]
  refine congrArg (Bias m c) ?_
  blk_ext [idx t0_0]

theorem final10 (c : Dev nD) : (dats m 0 c).arrAt 10 cfg0.N = Amax m c := by
  refine (dats m 0 c).arrAt_eq_of_after_last 10 t0_0 (by decide +kernel) _ fun j => ?_
  blk_simp
  rw [after0_10]; frame_out
  rw [blk0]
  refine congrArg (Amax m c) ?_
  blk_ext [idx t0_0]

theorem final11 (c : Dev nD) : (dats m 0 c).arrAt 11 cfg0.N = Codes m c := by
  refine (dats m 0 c).arrAt_eq_of_after_last 11 t0_0 (by decide +kernel) _ fun j => ?_
  blk_simp
  rw [after0_11]; frame_out
  rw [blk0, blk1]
  refine congrArg (Codes m c) ?_
  blk_ext [idx t0_0]

/-! What the host lines after the call leave. -/

theorem tail6 (c : Dev nD) : Pipeline.afterTail₀ cfgs (dats m) 0 (V0 m) [hostOps1] c main_v6
    = shapeCast S8x2048x4096 (Dx m c) shapeCasts_S16384x4096_S8x2048x4096 := by
  unfold Pipeline.afterTail₀
  simp only [List.flatten_cons, List.flatten_nil, List.append_nil, StableHlo.after_cons, StableHlo.after_nil]
  after_results_steps
  exact congrArg (fun X : FVec Ideal S16384x4096 .bf16 => shapeCast S8x2048x4096 X shapeCasts_S16384x4096_S8x2048x4096)
    ((Pipeline.withArrays_arr spec0 launch0.win.arr_inj c _ _ 7).trans (final7 m c))

theorem tail7 (c : Dev nD) : Pipeline.afterTail₀ cfgs (dats m) 0 (V0 m) [hostOps1] c main_v7
    = shapeCast S14336 (Bias m c) shapeCasts_S1x14336_S14336 := by
  unfold Pipeline.afterTail₀
  simp only [List.flatten_cons, List.flatten_nil, List.append_nil, StableHlo.after_cons, StableHlo.after_nil]
  after_results_steps
  exact congrArg (fun X : FVec Ideal S1x14336 .f32 => shapeCast S14336 X shapeCasts_S1x14336_S14336)
    ((Pipeline.withArrays_arr spec0 launch0.win.arr_inj c _ _ 9).trans (final9 m c))

theorem tail8 (c : Dev nD) : Pipeline.afterTail₀ cfgs (dats m) 0 (V0 m) [hostOps1] c main_v8
    = shapeCast S_ (Amax m c) shapeCasts_S1x1_S_ := by
  unfold Pipeline.afterTail₀
  simp only [List.flatten_cons, List.flatten_nil, List.append_nil, StableHlo.after_cons, StableHlo.after_nil]
  after_results_steps
  exact congrArg (fun X : FVec Ideal S1x1 .f32 => shapeCast S_ X shapeCasts_S1x1_S_)
    ((Pipeline.withArrays_arr spec0 launch0.win.arr_inj c _ _ 10).trans (final10 m c))

theorem tail9 (c : Dev nD) : Pipeline.afterTail₀ cfgs (dats m) 0 (V0 m) [hostOps1] c main_v9
    = shapeCast S8x2048x14336 (Codes m c) shapeCasts_S16384x14336_S8x2048x14336 := by
  unfold Pipeline.afterTail₀
  simp only [List.flatten_cons, List.flatten_nil, List.append_nil, StableHlo.after_cons, StableHlo.after_nil]
  after_results_steps
  exact congrArg (fun X : FVec Ideal S16384x14336 .fp8e5m2 => shapeCast S8x2048x14336 X shapeCasts_S16384x14336_S8x2048x14336)
    ((Pipeline.withArrays_arr spec0 launch0.win.arr_inj c _ _ 11).trans (final11 m c))

/-- The run: the five results, and the arguments as they were. -/
theorem run : θ_run defs (onTc (τ := τ) (main (F := Ideal))) ⟨m, fun _ => 0, ρ⟩ (fun r => ∀ c : Dev nD,
      r.2.mem ((c.tc : Thread nD τ).loc main_v6) = shapeCast S8x2048x4096 (Dx m c) shapeCasts_S16384x4096_S8x2048x4096
      ∧ r.2.mem ((c.tc : Thread nD τ).loc main_v5_1) = Dw m c
      ∧ r.2.mem ((c.tc : Thread nD τ).loc main_v7) = shapeCast S14336 (Bias m c) shapeCasts_S1x14336_S14336
      ∧ r.2.mem ((c.tc : Thread nD τ).loc main_v8) = shapeCast S_ (Amax m c) shapeCasts_S1x1_S_
      ∧ r.2.mem ((c.tc : Thread nD τ).loc main_v9) = shapeCast S8x2048x14336 (Codes m c) shapeCasts_S16384x14336_S8x2048x14336) :=
  (θ_run defs _ _).mono (fun _ h c => ⟨((h c).2 main_v6 (Pipeline.mem_restRefs_of main_v6 (by decide) (by decide))).trans (tail6 m c),
    ((h c).1 8).trans (final8 m c),
    ((h c).2 main_v7 (Pipeline.mem_restRefs_of main_v7 (by decide) (by decide))).trans (tail7 m c),
    ((h c).2 main_v8 (Pipeline.mem_restRefs_of main_v8 (by decide) (by decide))).trans (tail8 m c),
    ((h c).2 main_v9 (Pipeline.mem_restRefs_of main_v9 (by decide) (by decide))).trans (tail9 m c)⟩) (run_main m ρ)

/-! The results at an index. -/

theorem Codes_apply (c : Dev nD) (i : S16384x14336.Idx) : Codes m c i = min (Ideal.ofBits .f32 0x47600000#32)
    (max (Ideal.ofBits .f32 0xC7600000#32) (Dy m c i * Ideal.div 1 (Ds m c (ix2 0 0)))) := by
  pointwise [Codes, k0_pay5, k0_pay3, k0_pay2]

theorem Dx_apply (c : Dev nD) (i : S16384x4096.Idx) : Dx m c i
    = (∑ k : Fin 14336, Codes m c (ix2 (i 0) k) * Wt m c (ix2 k (i 1))) * (Ds m c (ix2 0 0) * Wc m c (ix2 0 0)) := by
  pointwise [Dx, k0_pay8, k0_pay6, k0_pay3]
  rfl

theorem Dw_apply (c : Dev nD) (i : S14336x4096.Idx) : Dw m c i = Mg m c i
    + (∑ r : Fin 16384, Codes m c (ix2 r (i 0)) * Xs m c (ix2 r (i 1))) * (Ds m c (ix2 0 0) * Xc m c (ix2 0 0)) := by
  pointwise [Dw, k0_pay1, k0_pay6, k0_pay3]
  rfl

theorem Bias_apply (c : Dev nD) (i : S14336.Idx) : shapeCast S14336 (Bias m c) shapeCasts_S1x14336_S14336 i
    = ∑ r : Fin 16384, Dy m c (ix2 r (i 0)) := by
  pointwise [Bias, k0_pay7, k0_pay2]

theorem Amax_apply (c : Dev nD) (i : S_.Idx) : shapeCast S_ (Amax m c) shapeCasts_S1x1_S_ i
    = Finset.univ.fold max (Ideal.ofBits .f32 0xFF800000#32) (fun x : Fin 16384 × Fin 14336 =>
      max (α := EReal) (Dy m c (ix2 x.1 x.2)) (-(show EReal from Dy m c (ix2 x.1 x.2)))) := by
  pointwise [Amax, k0_pay4, k0_pay2]
  rfl

/-! What the call starts from, over the arguments. -/

theorem Dy_eq (c : Dev nD) : Dy m c = shapeCast S16384x14336 (m ((c : Thread nD τ).loc main_arg0)) shapeCasts_S8x2048x14336_S16384x14336 := by
  show StableHlo.after (List.flatten [hostOps0]) _ _ = _
  simp only [List.flatten_cons, List.flatten_nil, List.append_nil, StableHlo.after_cons, StableHlo.after_nil]
  after_results_steps
  rfl
theorem Ds_eq (c : Dev nD) : Ds m c = shapeCast S1x1 (m ((c : Thread nD τ).loc main_arg1)) shapeCasts_S_S1x1 := by
  show StableHlo.after (List.flatten [hostOps0]) _ _ = _
  simp only [List.flatten_cons, List.flatten_nil, List.append_nil, StableHlo.after_cons, StableHlo.after_nil]
  after_results_steps
  rfl
theorem Xs_eq (c : Dev nD) : Xs m c = shapeCast S16384x4096 (m ((c : Thread nD τ).loc main_arg2)) shapeCasts_S8x2048x4096_S16384x4096 := by
  show StableHlo.after (List.flatten [hostOps0]) _ _ = _
  simp only [List.flatten_cons, List.flatten_nil, List.append_nil, StableHlo.after_cons, StableHlo.after_nil]
  after_results_steps
  rfl
theorem Xc_eq (c : Dev nD) : Xc m c = shapeCast S1x1 (m ((c : Thread nD τ).loc main_arg3)) shapeCasts_S_S1x1 := by
  show StableHlo.after (List.flatten [hostOps0]) _ _ = _
  simp only [List.flatten_cons, List.flatten_nil, List.append_nil, StableHlo.after_cons, StableHlo.after_nil]
  after_results_steps
  rfl
theorem Wc_eq (c : Dev nD) : Wc m c = shapeCast S1x1 (m ((c : Thread nD τ).loc main_arg5)) shapeCasts_S_S1x1 := by
  show StableHlo.after (List.flatten [hostOps0]) _ _ = _
  simp only [List.flatten_cons, List.flatten_nil, List.append_nil, StableHlo.after_cons, StableHlo.after_nil]
  after_results_steps
  rfl

theorem scal (X : FVec Ideal S_ .f32) : shapeCast S1x1 X shapeCasts_S_S1x1 (ix2 0 0) = X ix0 := by
  pointwise

end Cert.ReferenceIdeal.Value

end
-- ==== Proof.Compare.lean ====
/- The kernel's results against the reference's, over the extended reals: the same sums, products, maxima and clamps over
   arguments that agree. -/
module

public import proofs.«01_k».proof.Defs
public import proofs.«01_k».proof.Proof.RunValue
public import proofs.«01_k».proof.Proof.RefValue

@[expose] public section

set_option maxRecDepth 16384

noncomputable section

namespace Cert.Compare

open Idealize.ShloMosaic Idealize.ShloMosaic.TcCoe Idealize.SL.Sem

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ)

/-- The two programs start from the same arguments. -/
structure Agree (c : Dev KernelIdeal.nD) : Prop where
  a0 : m' ((c.tc : Thread ReferenceIdeal.nD ReferenceIdeal.τ).loc ReferenceIdeal.main_arg0) = m ((c.tc : Thread KernelIdeal.nD KernelIdeal.τ).loc KernelIdeal.main_arg0)
  a1 : m' ((c.tc : Thread ReferenceIdeal.nD ReferenceIdeal.τ).loc ReferenceIdeal.main_arg1) = m ((c.tc : Thread KernelIdeal.nD KernelIdeal.τ).loc KernelIdeal.main_arg1)
  a2 : m' ((c.tc : Thread ReferenceIdeal.nD ReferenceIdeal.τ).loc ReferenceIdeal.main_arg2) = m ((c.tc : Thread KernelIdeal.nD KernelIdeal.τ).loc KernelIdeal.main_arg2)
  a3 : m' ((c.tc : Thread ReferenceIdeal.nD ReferenceIdeal.τ).loc ReferenceIdeal.main_arg3) = m ((c.tc : Thread KernelIdeal.nD KernelIdeal.τ).loc KernelIdeal.main_arg3)
  a4 : m' ((c.tc : Thread ReferenceIdeal.nD ReferenceIdeal.τ).loc ReferenceIdeal.main_arg4) = m ((c.tc : Thread KernelIdeal.nD KernelIdeal.τ).loc KernelIdeal.main_arg4)
  a5 : m' ((c.tc : Thread ReferenceIdeal.nD ReferenceIdeal.τ).loc ReferenceIdeal.main_arg5) = m ((c.tc : Thread KernelIdeal.nD KernelIdeal.τ).loc KernelIdeal.main_arg5)
  a6 : m' ((c.tc : Thread ReferenceIdeal.nD ReferenceIdeal.τ).loc ReferenceIdeal.main_arg6) = m ((c.tc : Thread KernelIdeal.nD KernelIdeal.τ).loc KernelIdeal.main_arg6)

/-- A sum over all the rows, taken by residue, block and step. -/
theorem sum_rows (f : Fin 16384 → EReal) : ∑ r, f r = ∑ x : Fin 8, ∑ a : Fin 16, ∑ g : Fin 128,
    f ⟨a.val * 1024 + (g.val * 8 + x.val), by have := a.isLt; have := g.isLt; have := x.isLt; omega⟩ := by
  refine Eq.symm (Finset.sum_comm.trans ((Finset.sum_congr rfl fun a _ => Finset.sum_comm.trans
    (Fin.sum_mul_add_congr (S := 128) (n := 8) (f := fun k : Fin 1024 => f ⟨a.val * 1024 + k.val, by have := a.isLt; have := k.isLt; omega⟩) fun g x hl => rfl)).trans
    (Fin.sum_mul_add_congr (S := 16) (n := 1024) (f := f) fun a k hl => rfl)))

/-- An absolute value is not negative. -/
theorem abs_nonneg' (d : EReal) : 0 ≤ max d (-d) := by
  rcases le_total 0 d with h | h
  · exact h.trans (le_max_left _ _)
  · exact (EReal.neg_nonneg.mpr h).trans (le_max_right _ _)

open KernelIdeal.Whole (V1 V3 arg num)

variable {m m'} {c : Dev KernelIdeal.nD} (h : Agree m m' c)
include h

theorem dy : ReferenceIdeal.Value.Dy m' c = KernelIdeal.Dgrad.Dy (V1 m ρ) c :=
  (ReferenceIdeal.Value.Dy_eq m' c).trans ((congrArg (fun X => shapeCast _ X _) h.a0).trans (KernelIdeal.Whole.Dy_eq m ρ c).symm)
theorem xs : ReferenceIdeal.Value.Xs m' c = KernelIdeal.Wgrad.Xs (V3 m ρ) c :=
  (ReferenceIdeal.Value.Xs_eq m' c).trans ((congrArg (fun X => shapeCast _ X _) h.a2).trans (KernelIdeal.Whole.Xs_eq m ρ c).symm)
theorem wt : ReferenceIdeal.Value.Wt m' c = KernelIdeal.Dgrad.Wt (V1 m ρ) c :=
  (ReferenceIdeal.Gen.V_main_arg4 m' c).trans (h.a4.trans (KernelIdeal.Whole.Wt_eq m ρ c).symm)
theorem mg : ReferenceIdeal.Value.Mg m' c = KernelIdeal.Wgrad.Mg (V3 m ρ) c :=
  (ReferenceIdeal.Gen.V_main_arg6 m' c).trans (h.a6.trans (KernelIdeal.Whole.Mg_eq m ρ c).symm)
theorem s1 : ReferenceIdeal.Value.Ds m' c (ix2 0 0) = num (arg m c KernelIdeal.main_arg1) :=
  (congrFun (ReferenceIdeal.Value.Ds_eq m' c) _).trans ((ReferenceIdeal.Value.scal _).trans (congrFun h.a1 ix0))
theorem s3 : ReferenceIdeal.Value.Xc m' c (ix2 0 0) = num (arg m c KernelIdeal.main_arg3) :=
  (congrFun (ReferenceIdeal.Value.Xc_eq m' c) _).trans ((ReferenceIdeal.Value.scal _).trans (congrFun h.a3 ix0))
theorem s5 : ReferenceIdeal.Value.Wc m' c (ix2 0 0) = num (arg m c KernelIdeal.main_arg5) :=
  (congrFun (ReferenceIdeal.Value.Wc_eq m' c) _).trans ((ReferenceIdeal.Value.scal _).trans (congrFun h.a5 ix0))

theorem codes : ReferenceIdeal.Value.Codes m' c = KernelIdeal.Dgrad.Codes (V1 m ρ) c := by
  funext i
  rw [ReferenceIdeal.Value.Codes_apply, dy ρ h, s1 h]
  unfold KernelIdeal.Dgrad.Codes KernelIdeal.Dgrad.qz
  rw [KernelIdeal.Whole.Inv_eq]

theorem dx : ReferenceIdeal.Value.Dx m' c = KernelIdeal.Dgrad.Dx (V1 m ρ) c := by
  funext i
  rw [ReferenceIdeal.Value.Dx_apply, codes ρ h, wt ρ h, s1 h, s5 h]
  unfold KernelIdeal.Dgrad.Dx
  rw [KernelIdeal.Whole.Sc_eq]

theorem dw : ReferenceIdeal.Value.Dw m' c = KernelIdeal.Whole.R1 m ρ c := by
  funext i
  rw [ReferenceIdeal.Value.Dw_apply, codes ρ h, xs ρ h, mg ρ h, s1 h, s3 h]
  unfold KernelIdeal.Whole.R1 KernelIdeal.Wgrad.Dw
  rw [KernelIdeal.Whole.Sc'_eq, KernelIdeal.Whole.Cd_eq]

theorem bias : shapeCast ReferenceIdeal.S14336 (ReferenceIdeal.Value.Bias m' c) ReferenceIdeal.Gen.facts.shapeCasts_S1x14336_S14336 = KernelIdeal.Whole.R2 m ρ c := by
  funext i
  rw [ReferenceIdeal.Value.Bias_apply, dy ρ h, KernelIdeal.Whole.R2_apply]
  exact sum_rows fun r => KernelIdeal.Dgrad.Dy (V1 m ρ) c (ix2 r (i 0))

theorem amax : shapeCast ReferenceIdeal.S_ (ReferenceIdeal.Value.Amax m' c) ReferenceIdeal.Gen.facts.shapeCasts_S1x1_S_ = KernelIdeal.Whole.R3 m ρ c := by
  funext i
  rw [ReferenceIdeal.Value.Amax_apply, dy ρ h, KernelIdeal.Whole.R3_apply]
  refine eq_of_forall_ge_iff (α := EReal) fun B => ?_
  rw [Finset.fold_max_le, Finset.fold_max_le]
  simp only [Finset.mem_univ, forall_const]
  have hk := KernelIdeal.Dgrad.amax_all_le (V1 m ρ) c B
  constructor
  · rintro ⟨hm, hr⟩
    have hr' : ∀ (r : Fin 16384) (j : Fin 14336), KernelIdeal.Dgrad.AbsDy (V1 m ρ) c r j ≤ B := by
      intro r j
      have := hr (r, j)
      unfold KernelIdeal.Dgrad.AbsDy
      exact this
    exact ⟨hm, fun x => hk.mpr ⟨(abs_nonneg' _).trans (hr' 0 0), hm, hr'⟩ _⟩
  · rintro ⟨hm, hy⟩
    have := (hk.mp fun y => le_of_eq_of_le (congrArg (KernelIdeal.Dgrad.Amax (V1 m ρ) c) (eq_ix2 y)) (hy (y 0, y 1))).2.2
    exact ⟨hm, fun x => this x.1 x.2⟩

omit h

/-- The claim: both programs run, and their five results are equal. -/
theorem algebraic : Cert.algebraic_KernelIdeal_ReferenceIdeal (hKernelIdeal := KernelIdeal.Gen.facts) (hReferenceIdeal := ReferenceIdeal.Gen.facts) := by
  intro m g m' g' _ hagree
  have ha : ∀ c, Agree m m' c := fun c => by
    obtain ⟨h0, h1, h2, h3, h4, h5, h6⟩ := hagree c
    exact ⟨h0, h1, h2, h3, h4, h5, h6⟩
  refine ⟨KernelIdeal.Whole.R0 m g, KernelIdeal.Whole.R1 m g, KernelIdeal.Whole.R2 m g, KernelIdeal.Whole.R3 m g, KernelIdeal.Whole.R4 m g, ?_, ?_⟩
  · refine (θ_run _ _ _).mono (fun r h c => ?_) (θ_run_and (KernelIdeal.Whole.run_value m g) (KernelIdeal.Whole.frame m g))
    obtain ⟨r0, r1, r2, r3, r4⟩ := h.1 c
    exact ⟨r0, r1, r2, r3, r4, h.2.1 c⟩
  · refine (θ_run _ _ _).mono (fun r h c => ?_) (θ_run_and (ReferenceIdeal.Value.run m' g') (ReferenceIdeal.Gen.unchanged m' g'))
    obtain ⟨r0, r1, r2, r3, r4⟩ := h.1 c
    exact ⟨r0.trans (congrArg (fun X => shapeCast _ X _) (dx g (ha c))), r1.trans (dw g (ha c)), r2.trans (bias g (ha c)), r3.trans (amax g (ha c)),
      r4.trans (congrArg (fun X => shapeCast _ X _) (codes g (ha c))), h.2 c⟩

end Cert.Compare

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.BitsFrame
public import proofs.«01_k».proof.Proof.Compare

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelIdeal.Whole.quiescent_Kernel,
  Cert.KernelIdeal.Whole.frameAt Ideal,
  fun m ρ _ => Cert.ReferenceIdeal.Gen.frame m ρ,
  trivial,
  Cert.Compare.algebraic⟩

end Cert.Proof

end
